-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x384x3072 : Shape := ⟨3, ![12, 384, 3072]⟩
abbrev S1536x16384 : Shape := ⟨2, ![1536, 16384]⟩
abbrev S24x16384 : Shape := ⟨2, ![24, 16384]⟩
abbrev S256x256 : Shape := ⟨2, ![256, 256]⟩
abbrev S4608x3072 : Shape := ⟨2, ![4608, 3072]⟩
abbrev S12x4608x256 : Shape := ⟨3, ![12, 4608, 256]⟩
abbrev S384x3072 : Shape := ⟨2, ![384, 3072]⟩
abbrev S12x384x256 : Shape := ⟨3, ![12, 384, 256]⟩
abbrev S384 : Shape := ⟨1, ![384]⟩
abbrev S384x1 : Shape := ⟨2, ![384, 1]⟩
abbrev S384x128 : Shape := ⟨2, ![384, 128]⟩
abbrev S384x256 : Shape := ⟨2, ![384, 256]⟩
abbrev S1x384x256 : Shape := ⟨3, ![1, 384, 256]⟩
abbrev S4608x8192 : Shape := ⟨2, ![4608, 8192]⟩
abbrev S1536x256 : Shape := ⟨2, ![1536, 256]⟩
abbrev S24x256 : Shape := ⟨2, ![24, 256]⟩
abbrev S4608x256 : Shape := ⟨2, ![4608, 256]⟩
abbrev S3072x512 : Shape := ⟨2, ![3072, 512]⟩
abbrev S128x256 : Shape := ⟨2, ![128, 256]⟩
abbrev S128x1x256 : Shape := ⟨3, ![128, 1, 256]⟩
abbrev S128x2x256 : Shape := ⟨3, ![128, 2, 256]⟩
abbrev S1x256 : Shape := ⟨2, ![1, 256]⟩
abbrev S1x768x256 : Shape := ⟨3, ![1, 768, 256]⟩
abbrev S768x256 : Shape := ⟨2, ![768, 256]⟩
abbrev S768x3072 : Shape := ⟨2, ![768, 3072]⟩
abbrev S768x512 : Shape := ⟨2, ![768, 512]⟩
abbrev S12x384x8192 : Shape := ⟨3, ![12, 384, 8192]⟩

abbrev nBuf : Space → Nat
  | .hbm => 8
  | .vmem => 17
  | .smem => 0
  | _ => 0

abbrev bufTy : (tb : Table) → Fin (tcTables nBuf tb) → BufTy
  | .hbm, ⟨0, _⟩ => ⟨S12x384x3072, .bf16⟩
  | .hbm, ⟨1, _⟩ => ⟨S1536x16384, .i8⟩
  | .hbm, ⟨2, _⟩ => ⟨S24x16384, .bf16⟩
  | .hbm, ⟨3, _⟩ => ⟨S256x256, .bf16⟩
  | .hbm, ⟨4, _⟩ => ⟨S4608x3072, .bf16⟩
  | .hbm, ⟨5, _⟩ => ⟨S12x4608x256, .bf16⟩
  | .hbm, ⟨6, _⟩ => ⟨S4608x8192, .bf16⟩
  | .hbm, ⟨7, _⟩ => ⟨S12x384x8192, .bf16⟩
  | .local _ .vmem, ⟨0, _⟩ => ⟨S384x3072, .bf16⟩
  | .local _ .vmem, ⟨1, _⟩ => ⟨S384x3072, .bf16⟩
  | .local _ .vmem, ⟨2, _⟩ => ⟨S256x256, .bf16⟩
  | .local _ .vmem, ⟨3, _⟩ => ⟨S12x384x256, .bf16⟩
  | .local _ .vmem, ⟨4, _⟩ => ⟨S12x384x256, .bf16⟩
  | .local _ .vmem, ⟨5, _⟩ => ⟨S12x4608x256, .bf16⟩
  | .local _ .vmem, ⟨6, _⟩ => ⟨S1536x256, .i8⟩
  | .local _ .vmem, ⟨7, _⟩ => ⟨S1536x256, .i8⟩
  | .local _ .vmem, ⟨8, _⟩ => ⟨S1536x256, .i8⟩
  | .local _ .vmem, ⟨9, _⟩ => ⟨S1536x256, .i8⟩
  | .local _ .vmem, ⟨10, _⟩ => ⟨S24x256, .bf16⟩
  | .local _ .vmem, ⟨11, _⟩ => ⟨S24x256, .bf16⟩
  | .local _ .vmem, ⟨12, _⟩ => ⟨S24x256, .bf16⟩
  | .local _ .vmem, ⟨13, _⟩ => ⟨S24x256, .bf16⟩
  | .local _ .vmem, ⟨14, _⟩ => ⟨S4608x256, .bf16⟩
  | .local _ .vmem, ⟨15, _⟩ => ⟨S4608x256, .bf16⟩
  | .local _ .vmem, ⟨16, _⟩ => ⟨S3072x512, .bf16⟩
  | _, _ => ⟨S12x384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S384x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12x384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

@[reducible] def k1_t1_loop : Scf.Loop 32 :=
  let c0_i32_272 : BitVec 32 := 0#32
  let c6_i32 : BitVec 32 := 6#32
  let v761 : BitVec 32 := Scalar.addi c0_i32_272 c6_i32
  let c1_i32_273 : BitVec 32 := 1#32
  ⟨c0_i32_272, v761, c1_i32_273⟩
def k1_mult1 (k1_t1 : Fin k1_t1_loop.trips) : BitVec 32 :=
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  v762
def k1_off1 (k1_t1 : Fin k1_t1_loop.trips) : Fin 3 → Nat :=
  let c0_275 : Index := 0#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v764 : Index := Scalar.indexCast v763
  let c0_276 : Index := 0#32
  ![0, v764.toNat, 0]
def k1_off2 (k1_t1 : Fin k1_t1_loop.trips) : Fin 3 → Nat :=
  let c1_277 : Index := 1#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v767 : Index := Scalar.indexCast v763
  let c0_278 : Index := 0#32
  ![1, v767.toNat, 0]
def k1_off3 (k1_t1 : Fin k1_t1_loop.trips) : Fin 3 → Nat :=
  let c2_279 : Index := 2#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v770 : Index := Scalar.indexCast v763
  let c0_280 : Index := 0#32
  ![2, v770.toNat, 0]
def k1_off4 (k1_t1 : Fin k1_t1_loop.trips) : Fin 3 → Nat :=
  let c3_281 : Index := 3#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v773 : Index := Scalar.indexCast v763
  let c0_282 : Index := 0#32
  ![3, v773.toNat, 0]
def k1_off5 (k1_t1 : Fin k1_t1_loop.trips) : Fin 3 → Nat :=
  let c4_283 : Index := 4#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v776 : Index := Scalar.indexCast v763
  let c0_284 : Index := 0#32
  ![4, v776.toNat, 0]
def k1_off6 (k1_t1 : Fin k1_t1_loop.trips) : Fin 3 → Nat :=
  let c5_285 : Index := 5#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v779 : Index := Scalar.indexCast v763
  let c0_286 : Index := 0#32
  ![5, v779.toNat, 0]
def k1_off7 (k1_t1 : Fin k1_t1_loop.trips) : Fin 3 → Nat :=
  let c6_287 : Index := 6#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v782 : Index := Scalar.indexCast v763
  let c0_288 : Index := 0#32
  ![6, v782.toNat, 0]
def k1_off8 (k1_t1 : Fin k1_t1_loop.trips) : Fin 3 → Nat :=
  let c7_289 : Index := 7#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v785 : Index := Scalar.indexCast v763
  let c0_290 : Index := 0#32
  ![7, v785.toNat, 0]
def k1_off9 (k1_t1 : Fin k1_t1_loop.trips) : Fin 3 → Nat :=
  let c8_291 : Index := 8#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v788 : Index := Scalar.indexCast v763
  let c0_292 : Index := 0#32
  ![8, v788.toNat, 0]
def k1_off10 (k1_t1 : Fin k1_t1_loop.trips) : Fin 3 → Nat :=
  let c9_293 : Index := 9#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v791 : Index := Scalar.indexCast v763
  let c0_294 : Index := 0#32
  ![9, v791.toNat, 0]
def k1_off11 (k1_t1 : Fin k1_t1_loop.trips) : Fin 3 → Nat :=
  let c10_295 : Index := 10#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v794 : Index := Scalar.indexCast v763
  let c0_296 : Index := 0#32
  ![10, v794.toNat, 0]
def k1_off12 (k1_t1 : Fin k1_t1_loop.trips) : Fin 3 → Nat :=
  let c11_297 : Index := 11#32
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v797 : Index := Scalar.indexCast v763
  let c0_298 : Index := 0#32
  ![11, v797.toNat, 0]
def k1_off13 (k1_t1 : Fin k1_t1_loop.trips) : Fin 2 → Nat :=
  let c0_i32_272 : BitVec 32 := 0#32
  let c1_i32_273 : BitVec 32 := 1#32
  let arg8 : BitVec 32 := Scf.iv c0_i32_272 c1_i32_273 k1_t1
  let c768_i32 : BitVec 32 := 768#32
  let v762 : BitVec 32 := Scalar.muli arg8 c768_i32
  let v763 : BitVec 32 := v762
  let v809 : Index := Scalar.indexCast v763
  let c0_301 : Index := 0#32
  ![v809.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S12x4608x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1536x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1536x256 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S24x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S24x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4608x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S12x384x3072 : Shape := ⟨3, ![12, 384, 3072]⟩
abbrev S1536x16384 : Shape := ⟨2, ![1536, 16384]⟩
abbrev S24x16384 : Shape := ⟨2, ![24, 16384]⟩
abbrev S2x2 : Shape := ⟨2, ![2, 2]⟩
abbrev S_ : Shape := ⟨0, ![]⟩
abbrev S12x384 : Shape := ⟨2, ![12, 384]⟩
abbrev S12x384x1 : Shape := ⟨3, ![12, 384, 1]⟩
abbrev S12x384x24x128 : Shape := ⟨4, ![12, 384, 24, 128]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S12x16384 : Shape := ⟨2, ![12, 16384]⟩
abbrev S12x128x16384 : Shape := ⟨3, ![12, 128, 16384]⟩
abbrev S12x1x16384 : Shape := ⟨3, ![12, 1, 16384]⟩
abbrev S12x384x1536 : Shape := ⟨3, ![12, 384, 1536]⟩
abbrev S12x384x16384 : Shape := ⟨3, ![12, 384, 16384]⟩
abbrev S12x384x8192 : Shape := ⟨3, ![12, 384, 8192]⟩

abbrev nBuf : Space → Nat
  | .hbm => 121
  | .vmem => 0
  | .smem => 0
  | _ => 0

abbrev bufTy : (tb : Table) → Fin (tcTables nBuf tb) → BufTy
  | .hbm, ⟨0, _⟩ => ⟨S12x384x3072, .bf16⟩
  | .hbm, ⟨1, _⟩ => ⟨S1536x16384, .i8⟩
  | .hbm, ⟨2, _⟩ => ⟨S24x16384, .bf16⟩
  | .hbm, ⟨3, _⟩ => ⟨S2x2, .f32⟩
  | .hbm, ⟨4, _⟩ => ⟨S12x384x3072, .f32⟩
  | .hbm, ⟨5, _⟩ => ⟨S12x384x3072, .f32⟩
  | .hbm, ⟨6, _⟩ => ⟨S_, .f32⟩
  | .hbm, ⟨7, _⟩ => ⟨S12x384, .f32⟩
  | .hbm, ⟨8, _⟩ => ⟨S12x384x1, .f32⟩
  | .hbm, ⟨9, _⟩ => ⟨S_, .f32⟩
  | .hbm, ⟨10, _⟩ => ⟨S12x384x1, .f32⟩
  | .hbm, ⟨11, _⟩ => ⟨S12x384x1, .f32⟩
  | .hbm, ⟨12, _⟩ => ⟨S_, .f32⟩
  | .hbm, ⟨13, _⟩ => ⟨S12x384x1, .f32⟩
  | .hbm, ⟨14, _⟩ => ⟨S12x384x1, .f32⟩
  | .hbm, ⟨15, _⟩ => ⟨S12x384x1, .f32⟩
  | .hbm, ⟨16, _⟩ => ⟨S12x384x3072, .f32⟩
  | .hbm, ⟨17, _⟩ => ⟨S12x384x3072, .f32⟩
  | .hbm, ⟨18, _⟩ => ⟨S12x384x24x128, .f32⟩
  | .hbm, ⟨19, _⟩ => ⟨S_, .f32⟩
  | .hbm, ⟨20, _⟩ => ⟨S1x1, .f32⟩
  | .hbm, ⟨21, _⟩ => ⟨S1x1x1x1, .f32⟩
  | .hbm, ⟨22, _⟩ => ⟨S1x2x1x2, .f32⟩
  | .hbm, ⟨23, _⟩ => ⟨S1x2x1x2, .f32⟩
  | .hbm, ⟨24, _⟩ => ⟨S1x2x1x2, .f32⟩
  | .hbm, ⟨25, _⟩ => ⟨S2x2, .f32⟩
  | .hbm, ⟨26, _⟩ => ⟨S2x1x2x1, .f32⟩
  | .hbm, ⟨27, _⟩ => ⟨S1x2x1x2, .f32⟩
  | .hbm, ⟨28, _⟩ => ⟨S2x2x2x2, .f32⟩
  | .hbm, ⟨29, _⟩ => ⟨S2x2x2x2, .f32⟩
  | .hbm, ⟨30, _⟩ => ⟨S2x2x2x2, .f32⟩
  | .hbm, ⟨31, _⟩ => ⟨S4x4, .f32⟩
  | .hbm, ⟨32, _⟩ => ⟨S4x1x4x1, .f32⟩
  | .hbm, ⟨33, _⟩ => ⟨S1x2x1x2, .f32⟩
  | .hbm, ⟨34, _⟩ => ⟨S4x2x4x2, .f32⟩
  | .hbm, ⟨35, _⟩ => ⟨S4x2x4x2, .f32⟩
  | .hbm, ⟨36, _⟩ => ⟨S4x2x4x2, .f32⟩
  | .hbm, ⟨37, _⟩ => ⟨S8x8, .f32⟩
  | .hbm, ⟨38, _⟩ => ⟨S8x1x8x1, .f32⟩
  | .hbm, ⟨39, _⟩ => ⟨S1x2x1x2, .f32⟩
  | .hbm, ⟨40, _⟩ => ⟨S8x2x8x2, .f32⟩
  | .hbm, ⟨41, _⟩ => ⟨S8x2x8x2, .f32⟩
  | .hbm, ⟨42, _⟩ => ⟨S8x2x8x2, .f32⟩
  | .hbm, ⟨43, _⟩ => ⟨S16x16, .f32⟩
  | .hbm, ⟨44, _⟩ => ⟨S16x1x16x1, .f32⟩
  | .hbm, ⟨45, _⟩ => ⟨S1x2x1x2, .f32⟩
  | .hbm, ⟨46, _⟩ => ⟨S16x2x16x2, .f32⟩
  | .hbm, ⟨47, _⟩ => ⟨S16x2x16x2, .f32⟩
  | .hbm, ⟨48, _⟩ => ⟨S16x2x16x2, .f32⟩
  | .hbm, ⟨49, _⟩ => ⟨S32x32, .f32⟩
  | .hbm, ⟨50, _⟩ => ⟨S32x1x32x1, .f32⟩
  | .hbm, ⟨51, _⟩ => ⟨S1x2x1x2, .f32⟩
  | .hbm, ⟨52, _⟩ => ⟨S32x2x32x2, .f32⟩
  | .hbm, ⟨53, _⟩ => ⟨S32x2x32x2, .f32⟩
  | .hbm, ⟨54, _⟩ => ⟨S32x2x32x2, .f32⟩
  | .hbm, ⟨55, _⟩ => ⟨S64x64, .f32⟩
  | .hbm, ⟨56, _⟩ => ⟨S64x1x64x1, .f32⟩
  | .hbm, ⟨57, _⟩ => ⟨S1x2x1x2, .f32⟩
  | .hbm, ⟨58, _⟩ => ⟨S64x2x64x2, .f32⟩
  | .hbm, ⟨59, _⟩ => ⟨S64x2x64x2, .f32⟩
  | .hbm, ⟨60, _⟩ => ⟨S64x2x64x2, .f32⟩
  | .hbm, ⟨61, _⟩ => ⟨S128x128, .f32⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S12x384x24x128, .f32⟩
  | .hbm, ⟨66, _⟩ => ⟨S12x384x3072, .f32⟩
  | .hbm, ⟨67, _⟩ => ⟨S12x384x3072, .bf16⟩
  | .hbm, ⟨68, _⟩ => ⟨S1536x16384, .i32⟩
  | .hbm, ⟨69, _⟩ => ⟨S_, .i32⟩
  | .hbm, ⟨70, _⟩ => ⟨S1536x16384, .i32⟩
  | .hbm, ⟨71, _⟩ => ⟨S1536x16384, .i32⟩
  | .hbm, ⟨72, _⟩ => ⟨S_, .i32⟩
  | .hbm, ⟨73, _⟩ => ⟨S1536x16384, .i32⟩
  | .hbm, ⟨74, _⟩ => ⟨S1536x16384, .i1⟩
  | .hbm, ⟨75, _⟩ => ⟨S_, .i32⟩
  | .hbm, ⟨76, _⟩ => ⟨S1536x16384, .i32⟩
  | .hbm, ⟨77, _⟩ => ⟨S1536x16384, .i32⟩
  | .hbm, ⟨78, _⟩ => ⟨S1536x16384, .i32⟩
  | .hbm, ⟨79, _⟩ => ⟨S1536x16384, .bf16⟩
  | .hbm, ⟨80, _⟩ => ⟨S12x16384, .bf16⟩
  | .hbm, ⟨81, _⟩ => ⟨S12x128x16384, .bf16⟩
  | .hbm, ⟨82, _⟩ => ⟨S12x1x16384, .bf16⟩
  | .hbm, ⟨83, _⟩ => ⟨S12x128x16384, .bf16⟩
  | .hbm, ⟨84, _⟩ => ⟨S12x128x16384, .bf16⟩
  | .hbm, ⟨85, _⟩ => ⟨S1536x16384, .bf16⟩
  | .hbm, ⟨86, _⟩ => ⟨S_, .i32⟩
  | .hbm, ⟨87, _⟩ => ⟨S1536x16384, .i32⟩
  | .hbm, ⟨88, _⟩ => ⟨S1536x16384, .i32⟩
  | .hbm, ⟨89, _⟩ => ⟨S_, .i32⟩
  | .hbm, ⟨90, _⟩ => ⟨S1536x16384, .i32⟩
  | .hbm, ⟨91, _⟩ => ⟨S1536x16384, .i1⟩
  | .hbm, ⟨92, _⟩ => ⟨S_, .i32⟩
  | .hbm, ⟨93, _⟩ => ⟨S1536x16384, .i32⟩
  | .hbm, ⟨94, _⟩ => ⟨S1536x16384, .i32⟩
  | .hbm, ⟨95, _⟩ => ⟨S1536x16384, .i32⟩
  | .hbm, ⟨96, _⟩ => ⟨S1536x16384, .bf16⟩
  | .hbm, ⟨97, _⟩ => ⟨S12x16384, .bf16⟩
  | .hbm, ⟨98, _⟩ => ⟨S12x128x16384, .bf16⟩
  | .hbm, ⟨99, _⟩ => ⟨S12x1x16384, .bf16⟩
  | .hbm, ⟨100, _⟩ => ⟨S12x128x16384, .bf16⟩
  | .hbm, ⟨101, _⟩ => ⟨S12x128x16384, .bf16⟩
  | .hbm, ⟨102, _⟩ => ⟨S1536x16384, .bf16⟩
  | .hbm, ⟨103, _⟩ => ⟨S12x384x1536, .bf16⟩
  | .hbm, ⟨104, _⟩ => ⟨S12x384x16384, .f32⟩
  | .hbm, ⟨105, _⟩ => ⟨S12x384x1536, .bf16⟩
  | .hbm, ⟨106, _⟩ => ⟨S12x384x16384, .f32⟩
  | .hbm, ⟨107, _⟩ => ⟨S12x384x16384, .f32⟩
  | .hbm, ⟨108, _⟩ => ⟨S12x384x8192, .f32⟩
  | .hbm, ⟨109, _⟩ => ⟨S12x384x8192, .f32⟩
  | .hbm, ⟨110, _⟩ => ⟨S12x384x8192, .f32⟩
  | .hbm, ⟨111, _⟩ => ⟨S_, .f32⟩
  | .hbm, ⟨112, _⟩ => ⟨S12x384x8192, .f32⟩
  | .hbm, ⟨113, _⟩ => ⟨S12x384x8192, .f32⟩
  | .hbm, ⟨114, _⟩ => ⟨S_, .f32⟩
  | .hbm, ⟨115, _⟩ => ⟨S12x384x8192, .f32⟩
  | .hbm, ⟨116, _⟩ => ⟨S12x384x8192, .f32⟩
  | .hbm, ⟨117, _⟩ => ⟨S12x384x8192, .f32⟩
  | .hbm, ⟨118, _⟩ => ⟨S12x384x8192, .f32⟩
  | .hbm, ⟨119, _⟩ => ⟨S12x384x8192, .f32⟩
  | .hbm, ⟨120, _⟩ => ⟨S12x384x8192, .bf16⟩
  | _, _ => ⟨S12x384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v15 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v16 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_v17 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v18 : Ref sig .tc := ⟨.hbm, 55, rfl⟩
abbrev main_call6_v0 : Ref sig .tc := ⟨.hbm, 56, rfl⟩
abbrev main_call6_v1 : Ref sig .tc := ⟨.hbm, 57, rfl⟩
abbrev main_call6_v2 : Ref sig .tc := ⟨.hbm, 58, rfl⟩
abbrev main_call6_v3 : Ref sig .tc := ⟨.hbm, 59, rfl⟩
abbrev main_call6_v4 : Ref sig .tc := ⟨.hbm, 60, rfl⟩
abbrev main_v19 : Ref sig .tc := ⟨.hbm, 61, rfl⟩
abbrev main_cst_4 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c : Ref sig .tc := ⟨.hbm, 69, rfl⟩
abbrev main_v26 : Ref sig .tc := ⟨.hbm, 70, rfl⟩
abbrev main_v27 : Ref sig .tc := ⟨.hbm, 71, rfl⟩
abbrev main_c_5 : Ref sig .tc := ⟨.hbm, 72, rfl⟩
abbrev main_v28 : Ref sig .tc := ⟨.hbm, 73, rfl⟩
abbrev main_v29 : Ref sig .tc := ⟨.hbm, 74, rfl⟩
abbrev main_c_6 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_7 : Ref sig .tc := ⟨.hbm, 86, rfl⟩
abbrev main_v40 : Ref sig .tc := ⟨.hbm, 87, rfl⟩
abbrev main_v41 : Ref sig .tc := ⟨.hbm, 88, rfl⟩
abbrev main_c_8 : Ref sig .tc := ⟨.hbm, 89, rfl⟩
abbrev main_v42 : Ref sig .tc := ⟨.hbm, 90, rfl⟩
abbrev main_v43 : Ref sig .tc := ⟨.hbm, 91, rfl⟩
abbrev main_c_9 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_call9_v0 : Ref sig .tc := ⟨.hbm, 109, rfl⟩
abbrev main_call9_v1 : Ref sig .tc := ⟨.hbm, 110, rfl⟩
abbrev main_call9_cst : Ref sig .tc := ⟨.hbm, 111, rfl⟩
abbrev main_call9_v2 : Ref sig .tc := ⟨.hbm, 112, rfl⟩
abbrev main_call9_v3 : Ref sig .tc := ⟨.hbm, 113, rfl⟩
abbrev main_call9_cst_0 : Ref sig .tc := ⟨.hbm, 114, rfl⟩
abbrev main_call9_v4 : Ref sig .tc := ⟨.hbm, 115, rfl⟩
abbrev main_call9_v5 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩

abbrev nD : Nat := 1
abbrev τ : Topo := Topo.v7x

variable {F : FTy → Type} [FloatOps F]
-- ==== Proof.Tiles.lean ====
module

public import proofs.«01_k».proof.Proof.Gen.KernelIdeal.Skeleton
public import Idealize.ShloMosaic.Lib.Pointwise

/-!
# What one tile of each kernel computes, entry by entry
-/

@[expose] public section

set_option maxRecDepth 16384

noncomputable section

namespace Cert.Proof.Tiles

open Idealize.ShloMosaic Cert.KernelIdeal Cert.KernelIdeal.Gen

/-- The factor of row `r`: the reciprocal root mean square times `1/√128`. -/
theorem factor_apply (x : Vec Ideal S384x3072 .bf16) (r : Fin 384) (z : Fin 1) :
    (k0_pay2 x : FVec Ideal S384x1 .f32) (ix2 r z) =
      Ideal.rsqrt (Ideal.div (∑ k : Fin 3072, x (ix2 r k) * x (ix2 r k)) (Ideal.ofBits .f32 0x45400000#32)
        + Ideal.ofBits .f32 0x358637BD#32) * Ideal.ofBits .f32 0x3DB504F3#32 := by
  unfold k0_pay2
  pointwise

/-- One tile of the rotation: two channel tiles against the two halves of the interleaved matrix. -/
theorem tile_apply (f : FVec Ideal S384x1 .f32) (a b : Vec Ideal S384x128 .bf16)
    (h : Vec Ideal S256x256 .bf16) (z : Fin 1) (r : Fin 384) (q : Fin 256) :
    (k0_pay6 f a b h : FVec Ideal S1x384x256 .bf16) (ix3 z r q) =
      (∑ i : Fin 128, a (ix2 r i) * h (ix2 ⟨i, by omega⟩ q)
        + ∑ i : Fin 128, b (ix2 r i) * h (ix2 ⟨128 + i, by omega⟩ q)) * f (ix2 r 0) := by
  unfold k0_pay6
  pointwise

/-- The parity of a row, as it is computed. -/
theorem par_apply (a b : Fin 256) :
    k1_pay14 (ix2 a b) = BitVec.ofNat 32 (a % 2) := by
  unfold k1_pay14
  pointwise
  clear b
  revert a
  decide +kernel

/-- The parity test is that of the row number. -/
theorem par_eq (a b : Fin 256) :
    IntOp.cmpi CmpIPredicate.eq (k1_pay14 (ix2 a b)) 0#32 = if a.val % 2 = 0 then 1#1 else 0#1 := by
  rw [par_apply]
  clear b
  revert a
  decide +kernel

/-- The signed 4-bit code of a byte: its low nibble (`false`) or its high one (`true`). -/
def code (hi : Bool) (p : BitVec 8) : EReal :=
  (((if hi then p.setWidth 32 <<< 24 else p.setWidth 32 <<< 28 : BitVec 32).sshiftRight 28).toInt : ℝ)

/-- A tile of weights, entry by entry: code times scale, low half on even rows and high half on odd ones. -/
theorem w_apply (p : Vec Ideal S128x256 .i8) (s0 s1 : Vec Ideal S1x256 .bf16) (a b : Fin 256) :
    (k1_pay18 k1_pay14 p s0 s1 : FVec Ideal S256x256 .bf16) (ix2 a b)
      = if a.val % 2 = 0 then code false (p (ix2 ⟨a / 2, by omega⟩ b)) * s0 (ix2 0 b)
        else code true (p (ix2 ⟨a / 2, by omega⟩ b)) * s1 (ix2 0 b) := by
  unfold k1_pay18
  pointwise
  rw [par_eq]
  split
  · rfl
  · rfl

end Cert.Proof.Tiles
end
-- ==== Proof.RotateBlock.lean ====
module

public import proofs.«01_k».proof.Proof.Gen.KernelIdeal.Frame
public import proofs.«01_k».proof.Proof.Tiles
public import Idealize.ShloMosaic.Lib.Pipeline.ReadBack
public import Idealize.ShloMosaic.Lib.Pipeline.ValueKit

/-!
# What one block of the first kernel computes, entry by entry

A block is 384 rows of all 3072 channels. Tile `t` of its result holds the rotated channel tiles `t`
and `12 + t`, interleaved column by column.
-/

@[expose] public section

set_option maxRecDepth 16384

noncomputable section

namespace Cert.Proof.RotateBlock

open Idealize.ShloMosaic Idealize.ShloMosaic.TcCoe Idealize.ShloMosaic.Tactic
open Cert.KernelIdeal Cert.KernelIdeal.Gen Cert.Proof.Tiles

/-- The reciprocal root mean square of a row of channels. -/
def rms (x : Fin 3072 → EReal) : EReal :=
  Ideal.rsqrt (Ideal.div (∑ k : Fin 3072, x k * x k) (Ideal.ofBits .f32 0x45400000#32) + Ideal.ofBits .f32 0x358637BD#32)

/-- Entry `q` of tile `t` of one rotated row. -/
def rot (x : Fin 3072 → EReal) (h : Fin 256 → Fin 256 → EReal) (t : Fin 12) (q : Fin 256) : EReal :=
  (∑ i : Fin 128, x ⟨128 * t + i, by omega⟩ * h ⟨i, by omega⟩ q
    + ∑ i : Fin 128, x ⟨1536 + 128 * t + i, by omega⟩ * h ⟨128 + i, by omega⟩ q)
    * (rms x * Ideal.ofBits .f32 0x3DB504F3#32)

/-- The block's result. -/
def res (x : Vec Ideal S384x3072 .bf16) (h : Vec Ideal S256x256 .bf16) : Vec Ideal S12x384x256 .bf16 := fun y =>
  rot (fun k => x (ix2 (y 1) k)) (fun i q => h (ix2 i q)) (y 0) (y 2)

/-- A tile of channels lies in the block. -/
theorem tile_inb (t : Fin 12) (o : Nat) (ho : o + 1536 ≤ 3072) :
    ∀ a, (![0, o + 128 * t.val] : Fin 2 → Nat) a + S384x128.size a ≤ S384x3072.size a := by
  have := t.isLt
  intro a; fin_cases a <;> simp [S384x128, S384x3072] <;> omega

/-- A stored tile lies in the result's block. -/
theorem store_inb (t : Fin 12) :
    ∀ a, (![t.val, 0, 0] : Fin 3 → Nat) a + S1x384x256.size a ≤ S12x384x256.size a := by
  have := t.isLt
  intro a; fin_cases a <;> simp [S1x384x256, S12x384x256] <;> omega

/-- The twelve stores, last first. -/
def stores (x0 : Vec Ideal S384x3072 .bf16) (x1 : Vec Ideal S256x256 .bf16) : List (View.Piece (Elt Ideal) S12x384x256 .bf16) :=
  (List.finRange 12).reverse.map fun t =>
    ⟨Rect.unit ![t.val, 0, 0] S1x384x256.size (store_inb t),
      k0_pay6 (k0_pay2 (View.ld x0 r0_0)) (View.ld x0 (Rect.unit ![0, 0 + 128 * t.val] S384x128.size (tile_inb t 0 (by decide))))
        (View.ld x0 (Rect.unit ![0, 1536 + 128 * t.val] S384x128.size (tile_inb t 1536 (by decide)))) (View.ld x1 r0_3)⟩

/-- The block's result is what the twelve stores leave. -/
theorem stores_eq (x0 : Vec Ideal S384x3072 .bf16) (x1 : Vec Ideal S256x256 .bf16) :
    out0_2 x0 x1 = View.canon (stores x0 x1) := by
  sl_kernel_rfl

/-- Each is its block of the result. -/
theorem piece (x0 : Vec Ideal S384x3072 .bf16) (x1 : Vec Ideal S256x256 .bf16) (t : Fin 12) (x : S1x384x256.Idx) :
    (k0_pay6 (k0_pay2 x0) (View.ld x0 (Rect.unit ![0, 0 + 128 * t.val] S384x128.size (tile_inb t 0 (by decide))))
        (View.ld x0 (Rect.unit ![0, 1536 + 128 * t.val] S384x128.size (tile_inb t 1536 (by decide)))) x1 : FVec Ideal S1x384x256 .bf16) x
      = res x0 x1 ((Rect.unit (s := S12x384x256) ![t.val, 0, 0] S1x384x256.size (store_inb t)).emb x) := by
  obtain ⟨a, b, c, rfl⟩ : ∃ a b c, x = ix3 a b c := ⟨x 0, x 1, x 2, eq_ix3 x⟩
  rw [tile_apply, factor_apply]
  have e0 : (Rect.unit (s := S12x384x256) ![t.val, 0, 0] S1x384x256.size (store_inb t)).emb (ix3 a b c) = ix3 t b c := by
    funext d
    fin_cases d
    · exact Fin.ext (by show t.val + 1 * a.val = t.val; omega)
    · exact Fin.ext (by show 0 + 1 * b.val = b.val; omega)
    · exact Fin.ext (by show 0 + 1 * c.val = c.val; omega)
  rw [e0]
  show _ = rot (fun k => x0 (ix2 b k)) (fun i q => x1 (ix2 i q)) t c
  unfold rot rms
  pointwise

/-- The block's result, entry by entry. -/
theorem out_eq (x0 : Vec Ideal S384x3072 .bf16) (x1 : Vec Ideal S256x256 .bf16) : out0_2 x0 x1 = res x0 x1 := by
  rw [stores_eq]
  have hC : ∀ y, ∃ p ∈ stores x0 x1, y ∈ p.1.set :=
    View.cover_of_tiledL (stores x0 x1) S1x384x256.size (by sl_kernel_rfl)
  refine funext fun y => View.canon_apply_of_pieces _ _ (fun p hp => ?_) y (hC y)
  obtain ⟨t, -, rfl⟩ := List.mem_map.mp hp
  dsimp only
  rw [show View.ld x0 r0_0 = x0 from View.ld_unit_zero (S := S384x3072) (by funext a; fin_cases a <;> rfl) _ _,
    show View.ld x1 r0_3 = x1 from View.ld_unit_zero (S := S256x256) (by funext a; fin_cases a <;> rfl) _ _]
  exact fun x => piece x0 x1 t x

end Cert.Proof.RotateBlock
end
-- ==== Proof.MainChunk.lean ====
module

public import proofs.«01_k».proof.Proof.Gen.KernelIdeal.Skeleton
public import Idealize.ShloMosaic.Lib.Pointwise
public import Idealize.ShloMosaic.Lib.Pipeline.Value

/-!
# What one row chunk of the second kernel computes, entry by entry
-/

@[expose] public section

set_option maxRecDepth 16384

noncomputable section

namespace Cert.Proof.MainChunk

open Idealize.ShloMosaic Cert.KernelIdeal Cert.KernelIdeal.Gen

/-- The twelve rotated tiles of a row chunk side by side. -/
def rows (y : Fin 12 → Vec Ideal S1x768x256 .bf16) : FVec Ideal S768x3072 .bf16 :=
  concatenate S768x3072 1
    (List.ofFn fun n : Fin 12 => ⟨S768x256, shapeCast S768x256 (y n) shapeCasts_S1x768x256_S768x256⟩)
    concatenates_S768x256_S768x256_S768x256_S768x256_S768x256_S768x256_S768x256_S768x256_S768x256_S768x256_S768x256_S768x256_S768x3072_d1

/-- The joined rows, read in tile `t`. -/
theorem rows_apply (y : Fin 12 → Vec Ideal S1x768x256 .bf16) (r : Fin 768) (t : Fin 12) (a : Fin 256) (h : t.val * 256 + a.val < 3072) :
    rows y (ix2 r ⟨t * 256 + a, h⟩) = y t (ix3 0 r a) := by
  unfold rows
  refine (concatenate_ofFn_apply (t := S768x3072) (1 : Fin 2) (fun n : Fin 12 => shapeCast S768x256 (y n) shapeCasts_S1x768x256_S768x256) _ rfl 256 rfl
    (ix2 r ⟨t * 256 + a, h⟩) t (by show (t.val * 256 + a.val) / 256 = _; omega) (ix2 r a)
    (by show a.val = (t.val * 256 + a.val) % 256; omega)
    (fun b hb => by fin_cases b; · rfl
                    · exact absurd rfl hb)).trans ?_
  pointwise

/-- The sum of a row chunk's entry `r` and column `l` of the two weight halves. -/
def z (y : Fin 12 → Vec Ideal S1x768x256 .bf16) (w : Vec Ideal S3072x512 .bf16) (r : Fin 768) (l : Fin 512) : EReal :=
  ∑ t : Fin 12, ∑ a : Fin 256, y t (ix3 0 r a) * w (ix2 ⟨t * 256 + a, by omega⟩ l)

/-- The stored payload of a row chunk over the concatenated rows. -/
def payload (x : FVec Ideal S768x3072 .bf16) (w : Vec Ideal S3072x512 .bf16) : FVec Ideal S768x256 .bf16 :=
  let p : FVec Ideal S768x512 .f32 := matmul (φ₁ := .bf16) (φ₂ := .bf16) dot_S768x3072_S3072x512_S768x512_1_0_0_1_n_n none x w (constant S768x512 .f32 0x00000000#32)
  let g := extractStridedSlice S768x256 ![0, 0] p slices_S768x512_o0_0_S768x256
  let u := extractStridedSlice S768x256 ![0, 256] p slices_S768x512_o0_256_S768x256
  truncf .bf16 (mulf (mulf g (logistic g)) u) bitsLt_bf16_f32

/-- A chunk's stored value, by its products. -/
theorem payload_eq (y : Fin 12 → Vec Ideal S1x768x256 .bf16) (w : Vec Ideal S3072x512 .bf16) :
    k1_pay2 (k1_pay3 (y 0)) (k1_pay3 (y 1)) (k1_pay3 (y 2)) (k1_pay3 (y 3)) (k1_pay3 (y 4)) (k1_pay3 (y 5)) (k1_pay3 (y 6)) (k1_pay3 (y 7)) (k1_pay3 (y 8)) (k1_pay3 (y 9)) (k1_pay3 (y 10)) (y 11) w
      = payload (rows y) w := rfl

/-- A chunk's stored value, entry by entry. -/
theorem payload_apply (y : Fin 12 → Vec Ideal S1x768x256 .bf16) (w : Vec Ideal S3072x512 .bf16)
    (r : Fin 768) (l : Fin 256) :
    payload (rows y) w (ix2 r l) =
      z y w r ⟨l, by omega⟩ * Ideal.logistic (z y w r ⟨l, by omega⟩) * z y w r ⟨256 + l, by omega⟩ := by
  have hz : ∀ l : Fin 512, ∑ k : Fin 3072, rows y (ix2 r k) * w (ix2 k l) = z y w r l := fun l => by
    rw [Fin.sum_univ_tiles 12 256 rfl]
    refine Finset.sum_congr rfl fun t _ => Finset.sum_congr rfl fun a _ => ?_
    rw [rows_apply]
  generalize rows y = x at hz ⊢
  unfold payload
  pointwise
  simp only [hz]

end Cert.Proof.MainChunk
end
-- ==== Proof.MainBlock.lean ====
module

public import proofs.«01_k».proof.Proof.Gen.KernelIdeal.Frame
public import proofs.«01_k».proof.Proof.Tiles
public import proofs.«01_k».proof.Proof.MainChunk
public import Idealize.ShloMosaic.Lib.Pipeline.ReadBack
public import Idealize.ShloMosaic.Lib.Pipeline.ValueKit

/-!
# What one block of the second kernel computes, entry by entry
-/

@[expose] public section

set_option maxRecDepth 16384

noncomputable section

namespace Cert.Proof.MainBlock

open Idealize.ShloMosaic Idealize.ShloMosaic.TcCoe Idealize.ShloMosaic.Tactic
open Cert.KernelIdeal Cert.KernelIdeal.Gen Cert.Proof.Tiles

/-- Row `k` and column `n` of one dequantized half: even rows hold the low nibbles of the byte rows
in order, odd rows the high ones, tile by tile. -/
def wt (p : Vec Ideal S1536x256 .i8) (s : Vec Ideal S24x256 .bf16) (k : Fin 3072) (n : Fin 256) : EReal :=
  if k.val % 2 = 0 then
    code false (p (ix2 ⟨k / 256 * 128 + k % 256 / 2, by omega⟩ n)) * s (ix2 ⟨k / 256, by omega⟩ n)
  else
    code true (p (ix2 ⟨k / 256 * 128 + k % 256 / 2, by omega⟩ n)) * s (ix2 ⟨12 + k / 256, by omega⟩ n)

/-- The two halves side by side. -/
def weights (p p' : Vec Ideal S1536x256 .i8) (s s' : Vec Ideal S24x256 .bf16) : Vec Ideal S3072x512 .bf16 := fun y =>
  if h : (y 1).val < 256 then wt p s (y 0) ⟨y 1, h⟩ else wt p' s' (y 0) ⟨(y 1).val - 256, by have : (y 1).val < 512 := (y 1).isLt; omega⟩

/-- One tile's store is its block of the half. -/
theorem tile_eq (p : Vec Ideal S1536x256 .i8) (s : Vec Ideal S24x256 .bf16) (t : Nat) (ht : t < 12)
    (hp : ∀ a, (![128 * t, 0] : Fin 2 → Nat) a + S128x256.size a ≤ S1536x256.size a)
    (hs : ∀ a, (![t, 0] : Fin 2 → Nat) a + S1x256.size a ≤ S24x256.size a)
    (hs' : ∀ a, (![12 + t, 0] : Fin 2 → Nat) a + S1x256.size a ≤ S24x256.size a) (a b : Fin 256) :
    (k1_pay18 k1_pay14 (View.ld p (Rect.unit ![128 * t, 0] S128x256.size hp)) (View.ld s (Rect.unit ![t, 0] S1x256.size hs))
      (View.ld s (Rect.unit ![12 + t, 0] S1x256.size hs')) : FVec Ideal S256x256 .bf16) (ix2 a b) = wt p s ⟨256 * t + a, by omega⟩ b := by
  rw [w_apply]
  pointwise
  unfold wt
  dsimp only
  have e1 : (256 * t + a.val) % 2 = a.val % 2 := by omega
  have e2 : (256 * t + a.val) / 256 = t := by omega
  have e3 : (256 * t + a.val) % 256 = a.val := by omega
  simp only [e1, e2, e3, Nat.mul_comm 128 t]

/-- The same as blocks of the two halves side by side: the stored block at rows `256 * t` and the
columns of the first half, -/
theorem piece_lo (p p' : Vec Ideal S1536x256 .i8) (s s' : Vec Ideal S24x256 .bf16) (t : Nat) (ht : t < 12)
    (hr : ∀ a, (![256 * t, 0] : Fin 2 → Nat) a + S256x256.size a ≤ S3072x512.size a)
    (hp : ∀ a, (![128 * t, 0] : Fin 2 → Nat) a + S128x256.size a ≤ S1536x256.size a)
    (hs : ∀ a, (![t, 0] : Fin 2 → Nat) a + S1x256.size a ≤ S24x256.size a)
    (hs' : ∀ a, (![12 + t, 0] : Fin 2 → Nat) a + S1x256.size a ≤ S24x256.size a) (x : S256x256.Idx) :
    (k1_pay18 k1_pay14 (View.ld p (Rect.unit ![128 * t, 0] S128x256.size hp)) (View.ld s (Rect.unit ![t, 0] S1x256.size hs))
      (View.ld s (Rect.unit ![12 + t, 0] S1x256.size hs')) : FVec Ideal S256x256 .bf16) x
      = weights p p' s s' ((Rect.unit (s := S3072x512) ![256 * t, 0] S256x256.size hr).emb x) := by
  obtain ⟨a, b, rfl⟩ : ∃ a b, x = ix2 a b := ⟨x 0, x 1, eq_ix2 x⟩
  rw [tile_eq p s t ht hp hs hs']
  unfold weights
  rw [dif_pos (show _ < 256 by show 0 + 1 * b.val < 256; omega)]
  congr 1
  · exact Fin.ext (by show 256 * t + a.val = 256 * t + 1 * a.val; omega)
  · exact Fin.ext (by show b.val = 0 + 1 * b.val; omega)

/-- and the one at the columns of the second. -/
theorem piece_hi (p p' : Vec Ideal S1536x256 .i8) (s s' : Vec Ideal S24x256 .bf16) (t : Nat) (ht : t < 12)
    (hr : ∀ a, (![256 * t, 256] : Fin 2 → Nat) a + S256x256.size a ≤ S3072x512.size a)
    (hp : ∀ a, (![128 * t, 0] : Fin 2 → Nat) a + S128x256.size a ≤ S1536x256.size a)
    (hs : ∀ a, (![t, 0] : Fin 2 → Nat) a + S1x256.size a ≤ S24x256.size a)
    (hs' : ∀ a, (![12 + t, 0] : Fin 2 → Nat) a + S1x256.size a ≤ S24x256.size a) (x : S256x256.Idx) :
    (k1_pay18 k1_pay14 (View.ld p' (Rect.unit ![128 * t, 0] S128x256.size hp)) (View.ld s' (Rect.unit ![t, 0] S1x256.size hs))
      (View.ld s' (Rect.unit ![12 + t, 0] S1x256.size hs')) : FVec Ideal S256x256 .bf16) x
      = weights p p' s s' ((Rect.unit (s := S3072x512) ![256 * t, 256] S256x256.size hr).emb x) := by
  obtain ⟨a, b, rfl⟩ : ∃ a b, x = ix2 a b := ⟨x 0, x 1, eq_ix2 x⟩
  rw [tile_eq p' s' t ht hp hs hs']
  unfold weights
  rw [dif_neg (show ¬ _ < 256 by show ¬ 256 + 1 * b.val < 256; omega)]
  congr 1
  · exact Fin.ext (by show 256 * t + a.val = 256 * t + 1 * a.val; omega)
  · exact Fin.ext (by show b.val = 256 + 1 * b.val - 256; omega)

section Run

variable (c : Dev nD) (i : grid1.Coords) (arg1 : Memref sig .tc .vmem S12x4608x256 .bf16) (harg1 : arg1.IsWhole)
  (arg2 : Memref sig .tc .vmem S1536x256 .i8) (harg2 : arg2.IsWhole) (arg3 : Memref sig .tc .vmem S1536x256 .i8) (harg3 : arg3.IsWhole)
  (arg4 : Memref sig .tc .vmem S24x256 .bf16) (harg4 : arg4.IsWhole) (arg5 : Memref sig .tc .vmem S24x256 .bf16) (harg5 : arg5.IsWhole)
  (arg6 : Memref sig .tc .vmem S4608x256 .bf16) (harg6 : arg6.IsWhole) (arg7 : Memref sig .tc .vmem S3072x512 .bf16) (harg7 : arg7.IsWhole)
  (x0 : Vec Ideal S12x4608x256 .bf16) (x1 x2 : Vec Ideal S1536x256 .i8) (x3 x4 : Vec Ideal S24x256 .bf16)

/-- The block's product, row `m` and column `l` of the two halves. -/
def z (x0 : Vec Ideal S12x4608x256 .bf16) (w : Vec Ideal S3072x512 .bf16) (m : Fin 4608) (l : Fin 512) : EReal :=
  ∑ t : Fin 12, ∑ a : Fin 256, x0 (ix3 t m a) * w (ix2 ⟨t * 256 + a, by omega⟩ l)

/-- The block's result. -/
def res (x0 : Vec Ideal S12x4608x256 .bf16) (w : Vec Ideal S3072x512 .bf16) : Vec Ideal S4608x256 .bf16 := fun y =>
  let g := z x0 w (y 0) ⟨y 1, Nat.lt_of_lt_of_le (y 1).isLt (by decide)⟩
  g * Ideal.logistic g * z x0 w (y 0) ⟨256 + (y 1).val, by have : (y 1).val < 256 := (y 1).isLt; omega⟩

/-- A tile of weights lies in the scratch. -/
theorem tile_inb (t : Fin 12) (col : Nat) (hc : col + 256 ≤ 512) :
    ∀ a, (![256 * t.val, col] : Fin 2 → Nat) a + S256x256.size a ≤ S3072x512.size a := by
  have := t.isLt
  intro a; fin_cases a <;> simp [S256x256, S3072x512] <;> omega

/-- The twelve stores of one half, last first, at column `col` of the scratch. -/
def half (col : Nat) (hc : col + 256 ≤ 512) (p : Vec Ideal S1536x256 .i8) (s : Vec Ideal S24x256 .bf16) :
    List (View.Piece (Elt Ideal) S3072x512 .bf16) :=
  (List.finRange 12).reverse.map fun t =>
    ⟨Rect.unit ![256 * t.val, col] S256x256.size
        (tile_inb t col hc),
      k1_pay18 k1_pay14
        (View.ld p (Rect.unit ![128 * t.val, 0] S128x256.size
          (by have := t.isLt; intro a; fin_cases a <;> simp [S128x256, S1536x256] <;> omega)))
        (View.ld s (Rect.unit ![t.val, 0] S1x256.size
          (by have := t.isLt; intro a; fin_cases a <;> simp [S1x256, S24x256] <;> omega)))
        (View.ld s (Rect.unit ![12 + t.val, 0] S1x256.size
          (by have := t.isLt; intro a; fin_cases a <;> simp [S1x256, S24x256] <;> omega)))⟩

/-- The 24 stores, last first: the second half's, then the first's. -/
def stores (p p' : Vec Ideal S1536x256 .i8) (s s' : Vec Ideal S24x256 .bf16) : List (View.Piece (Elt Ideal) S3072x512 .bf16) :=
  half 256 (by decide) p' s' ++ half 0 (by decide) p s

/-- They are the run's. -/
theorem stores_eq :
    kernelRun1_A.sl.HS0_24 c arg2 harg2 arg3 harg3 arg4 harg4 arg5 harg5 x1 x2 x3 x4
      = stores (arg2.view.read (Elt Ideal) (harg2.unread x1)) (arg3.view.read (Elt Ideal) (harg3.unread x2))
          (arg4.view.read (Elt Ideal) (harg4.unread x3)) (arg5.view.read (Elt Ideal) (harg5.unread x4)) := by
  sl_kernel_rfl

/-- What the scratch holds once the 24 tiles are stored. -/
theorem scratch_eq :
    arg7.view.read (Elt Ideal) (arg7.view.writes (Elt Ideal) arg7.view.junk
      (kernelRun1_A.sl.HS0_24 c arg2 harg2 arg3 harg3 arg4 harg4 arg5 harg5 x1 x2 x3 x4)) = weights x1 x2 x3 x4 := by
  rw [stores_eq, harg2.read_unread, harg3.read_unread, harg4.read_unread, harg5.read_unread]
  have hC : ∀ y, ∃ p ∈ stores x1 x2 x3 x4, y ∈ p.1.set :=
    View.cover_of_tiledL (stores x1 x2 x3 x4) S256x256.size (by sl_kernel_rfl)
  rw [View.read_writes_eq_canon _ _ _ hC]
  refine funext fun y => View.canon_apply_of_pieces _ _ (fun p hp => ?_) y (hC y)
  rcases List.mem_append.mp hp with hp | hp
  · obtain ⟨t, -, rfl⟩ := List.mem_map.mp hp
    exact fun x => piece_hi x1 x2 x3 x4 t t.isLt (tile_inb t 256 (by decide)) _ _ _ x
  · obtain ⟨t, -, rfl⟩ := List.mem_map.mp hp
    exact fun x => piece_lo x1 x2 x3 x4 t t.isLt (tile_inb t 0 (by decide)) _ _ _ x

/-- The twelve loads of a row chunk from row `o` on. -/
def loads (x0 : Vec Ideal S12x4608x256 .bf16) (o : Nat) (ho : o + 768 ≤ 4608) (t : Fin 12) : Vec Ideal S1x768x256 .bf16 :=
  View.ld x0 (Rect.unit ![t.val, o, 0] ![1, 768, 256]
    (by have := t.isLt; intro a; fin_cases a <;> simp [S12x4608x256] <;> omega))

/-- One trip's store is its row chunk of the result. -/
theorem chunk_eq (x0 : Vec Ideal S12x4608x256 .bf16) (w : Vec Ideal S3072x512 .bf16) (o : Nat) (ho : o + 768 ≤ 4608)
    (hr : ∀ a, (![o, 0] : Fin 2 → Nat) a + (![768, 256] : Fin 2 → Nat) a ≤ S4608x256.size a) (x : S768x256.Idx) :
    MainChunk.payload (MainChunk.rows (loads x0 o ho)) w x = res x0 w ((Rect.unit (s := S4608x256) ![o, 0] ![768, 256] hr).emb x) := by
  obtain ⟨a, b, rfl⟩ : ∃ a b, x = ix2 a b := ⟨x 0, x 1, eq_ix2 x⟩
  rw [MainChunk.payload_apply]
  have hz : ∀ l, MainChunk.z (loads x0 o ho) w a l = z x0 w ⟨o + a, by omega⟩ l := fun l => by
    unfold MainChunk.z z loads
    refine Finset.sum_congr rfl fun t _ => Finset.sum_congr rfl fun b _ => ?_
    pointwise
  rw [hz, hz]
  unfold res
  have e0 : (Rect.unit (s := S4608x256) ![o, 0] ![768, 256] hr).emb (ix2 a b) = ix2 ⟨o + a, by omega⟩ b := by
    funext d
    fin_cases d
    · exact Fin.ext (by show o + 1 * a.val = o + a.val; omega)
    · exact Fin.ext (by show 0 + 1 * b.val = b.val; omega)
  rw [e0]
  rfl

/-- A chunk of rows lies in the block. -/
theorem off_lt (k : Fin k1_t1_loop.trips) : k1_off13 k 0 + 768 ≤ 4608 := by
  have hk : k.val < 6 := Nat.lt_of_lt_of_le k.isLt k1_t1_abs.2.1
  rw [k1_off13_eq]
  show 768 * k.val + 768 ≤ 4608
  omega

/-- The piece a trip writes. -/
theorem trip_eq (X : BufTy.Contents (Elt Ideal) arg7.view.ty) (k : Fin k1_t1_loop.trips) (hr) :
    tripL_k1_t1 Variants.none c none i arg1 harg1 arg2 harg2 arg3 harg3 arg4 harg4 arg5 harg5 arg6 harg6 arg7 harg7
        (harg1.unread x0) X k =
      [⟨Rect.unit (s := S4608x256) ![k1_off13 k 0, 0] ![768, 256] hr,
        MainChunk.payload (MainChunk.rows (loads x0 (k1_off13 k 0) (off_lt k))) (arg7.view.read (Elt Ideal) X)⟩] := by
  rw [← MainChunk.payload_eq]
  unfold tripL_k1_t1 trip_k1_t1
  dsimp only
  sl_unfold_words
  simp only [View.readAt_eq_ld, harg1.read_unread]
  rw [View.ld_unit_zero (S := S3072x512) (by funext a; fin_cases a <;> rfl)]
  rfl

/-- The pieces of the trips before `k` are blocks of the result. -/
theorem pieces (X : BufTy.Contents (Elt Ideal) arg7.view.ty) (k : Nat) (hk : k ≤ k1_t1_loop.trips) :
    ∀ p ∈ pb_k1_t1 Variants.none c none i arg1 harg1 arg2 harg2 arg3 harg3 arg4 harg4 arg5 harg5 arg6 harg6 arg7 harg7
        (harg1.unread x0) X k, ∀ x, p.2 x = res x0 (arg7.view.read (Elt Ideal) X) (p.1.emb x) := by
  induction k with
  | zero => intro p hp; exact absurd hp List.not_mem_nil
  | succ k ih =>
    intro p hp
    rw [pb_k1_t1_succ Variants.none c none i arg1 harg1 arg2 harg2 arg3 harg3 arg4 harg4 arg5 harg5 arg6 harg6 arg7 harg7
      (harg1.unread x0) X ⟨k, hk⟩] at hp
    rcases List.mem_append.mp hp with hp | hp
    · have hr : ∀ a, (![k1_off13 ⟨k, hk⟩ 0, 0] : Fin 2 → Nat) a + (![768, 256] : Fin 2 → Nat) a ≤ S4608x256.size a := by
        have := off_lt ⟨k, hk⟩
        intro a; fin_cases a
        · exact this
        · exact Nat.le_refl 256
      rw [trip_eq c i arg1 harg1 arg2 harg2 arg3 harg3 arg4 harg4 arg5 harg5 arg6 harg6 arg7 harg7 x0 X ⟨k, hk⟩ hr] at hp
      obtain rfl := List.mem_singleton.mp hp
      exact chunk_eq x0 _ _ (off_lt ⟨k, hk⟩) hr
    · exact ih (by omega) p hp

/-- The block's result, in the run's own words. -/
theorem out_eq :
    out1_A_5 c i arg1 harg1 arg2 harg2 arg3 harg3 arg4 harg4 arg5 harg5 arg6 harg6 arg7 harg7 x0 x1 x2 x3 x4
      = res x0 (weights x1 x2 x3 x4) := by
  have hC := cover1_A_5 c i arg1 harg1 arg2 harg2 arg3 harg3 arg4 harg4 arg5 harg5 arg6 harg6 arg7 harg7 x0 x1 x2 x3 x4
  unfold out1_A_5
  rw [View.read_writes_eq_canon _ _ _ hC]
  refine funext fun y => View.canon_apply_of_pieces _ _ (fun p hp => ?_) y (hC y)
  rw [← scratch_eq c arg2 harg2 arg3 harg3 arg4 harg4 arg5 harg5 arg7 x1 x2 x3 x4]
  exact pieces c i arg1 harg1 arg2 harg2 arg3 harg3 arg4 harg4 arg5 harg5 arg6 harg6 arg7 harg7 x0 _ _ (Nat.le_refl _) p hp

end Run

end Cert.Proof.MainBlock
end
-- ==== Proof.Arrays.lean ====
module

public import proofs.«01_k».proof.Proof.RotateBlock
public import proofs.«01_k».proof.Proof.MainBlock

/-!
# What the arrays hold after each kernel
-/

@[expose] public section

set_option maxRecDepth 16384

noncomputable section

namespace Cert.Proof.Arrays

open Idealize.ShloMosaic Idealize.ShloMosaic.TcCoe Idealize.ShloMosaic.Tactic
open Cert.KernelIdeal Cert.KernelIdeal.Gen

variable (V : (c : Dev nD) → (b : Ref sig .tc) → Buf (Elt Ideal) ((c : Thread nD τ).loc b))

/-- The array of the rotated activations: entry `t, m, q` is `rot` of row `m`. -/
def rotated (x : Vec Ideal S4608x3072 .bf16) (h : Vec Ideal S256x256 .bf16) : Vec Ideal S12x4608x256 .bf16 := fun y =>
  RotateBlock.rot (fun k => x (ix2 (y 1) k)) (fun i q => h (ix2 i q)) (y 0) (y 2)

/-- The blocks of the two grids. First kernel: block `t` of the rows, the whole sign matrix, block `t` of the result's rows;
second kernel: the whole rotated array, column block `t` for the gate and `t + 32` for the up projection. -/
theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, t.val, 0] := (by decide +kernel : ∀ t : Fin grid0.N, _)
theorem index1_0 : ∀ t : Fin cfg1.N, win1_0.index t = ![0, 0, 0] := (by decide +kernel : ∀ t : Fin grid1.N, _)
theorem index1_1 : ∀ t : Fin cfg1.N, win1_1.index t = ![0, t.val] := (by decide +kernel : ∀ t : Fin grid1.N, _)
theorem index1_2 : ∀ t : Fin cfg1.N, win1_2.index t = ![0, t.val + 32] := (by decide +kernel : ∀ t : Fin grid1.N, _)
theorem index1_3 : ∀ t : Fin cfg1.N, win1_3.index t = ![0, t.val] := (by decide +kernel : ∀ t : Fin grid1.N, _)
theorem index1_4 : ∀ t : Fin cfg1.N, win1_4.index t = ![0, t.val + 32] := (by decide +kernel : ∀ t : Fin grid1.N, _)
theorem index1_5 : ∀ t : Fin cfg1.N, win1_5.index t = ![0, t.val] := (by decide +kernel : ∀ t : Fin grid1.N, _)

/-- Every block of the rotated array is written. -/
theorem arr0 (c : Dev nD) :
    (dat0 V c).arrAt 2 cfg0.N = rotated (V c main_v0) (V c main_cst) := by
  refine (dat0 V c).arrAt_eq_of_covers 2 _ (by decide +kernel) fun t hf y => ?_
  blk_simp
  rw [after0_2, RotateBlock.out_eq]
  have hx : ∀ k : Fin 3072, (iblk0 V c 0 t : Vec Ideal S384x3072 .bf16) (ix2 (y 1) k)
      = (V c main_v0 : Vec Ideal S4608x3072 .bf16) (ix2 ((win0_2.blk t).view.emb y 1) k) := by
    intro k
    blk_simp [iblk0]
    congr 1
    blk_ext [index0_0 t, index0_2 t]
  have hh : ∀ (i q : Fin 256), (iblk0 V c 1 t : Vec Ideal S256x256 .bf16) (ix2 i q)
      = (V c main_cst : Vec Ideal S256x256 .bf16) (ix2 i q) := by
    intro i q
    blk_simp [iblk0]
    congr 1
    blk_ext [index0_1 t]
  have h0 : (win0_2.blk t).view.emb y 0 = y 0 := by
    apply Fin.ext
    blk_simp [index0_2 t]
  have h2 : (win0_2.blk t).view.emb y 2 = y 2 := by
    apply Fin.ext
    blk_simp [index0_2 t]
  unfold RotateBlock.res rotated
  dsimp only
  simp only [hx, hh]
  rw [h0, h2]

/-- Entry `k, n` of the dequantized weights, over all the columns: row `k = 256 t + a` is row `128 t + a / 2` of the
bytes, its low half for even `a` with scale row `t`, its high half for odd `a` with scale row `12 + t`. -/
def wt (p : Vec Ideal S1536x16384 .i8) (s : Vec Ideal S24x16384 .bf16) (k : Fin 3072) (n : Fin 16384) : EReal :=
  if k.val % 2 = 0 then
    Tiles.code false (p (ix2 ⟨k.val / 256 * 128 + k.val % 256 / 2, by omega⟩ n)) * s (ix2 ⟨k.val / 256, by omega⟩ n)
  else
    Tiles.code true (p (ix2 ⟨k.val / 256 * 128 + k.val % 256 / 2, by omega⟩ n)) * s (ix2 ⟨12 + k.val / 256, by omega⟩ n)

/-- Row `m` of the rotated activations against column `n` of the weights. -/
def z (x : Vec Ideal S12x4608x256 .bf16) (p : Vec Ideal S1536x16384 .i8) (s : Vec Ideal S24x16384 .bf16)
    (m : Fin 4608) (n : Fin 16384) : EReal :=
  ∑ t : Fin 12, ∑ a : Fin 256, x (ix3 t m a) * wt p s ⟨t.val * 256 + a.val, by omega⟩ n

/-- The second kernel's result: column `n` is the gate's, column `8192 + n` the up projection's. -/
def gated (x : Vec Ideal S12x4608x256 .bf16) (p : Vec Ideal S1536x16384 .i8) (s : Vec Ideal S24x16384 .bf16) :
    Vec Ideal S4608x8192 .bf16 := fun y =>
  let n : Fin 8192 := y 1
  let g := z x p s (y 0) ⟨n.val, by omega⟩
  g * Ideal.logistic g * z x p s (y 0) ⟨8192 + n.val, by omega⟩

/-- A block of columns of the second kernel's result. -/
theorem gated_block (X x : Vec Ideal S12x4608x256 .bf16) (P P' : Vec Ideal S1536x256 .i8) (S S' : Vec Ideal S24x256 .bf16)
    (p : Vec Ideal S1536x16384 .i8) (s : Vec Ideal S24x16384 .bf16) (t : ℕ) (ht : t < 32)
    (hx : ∀ (j : Fin 12) (m : Fin 4608) (a : Fin 256), X (ix3 j m a) = x (ix3 j m a))
    (hp : ∀ (k : Fin 1536) (n : Fin 256), P (ix2 k n) = p (ix2 k ⟨t * 256 + n.val, by omega⟩))
    (hp' : ∀ (k : Fin 1536) (n : Fin 256), P' (ix2 k n) = p (ix2 k ⟨8192 + (t * 256 + n.val), by omega⟩))
    (hs : ∀ (k : Fin 24) (n : Fin 256), S (ix2 k n) = s (ix2 k ⟨t * 256 + n.val, by omega⟩))
    (hs' : ∀ (k : Fin 24) (n : Fin 256), S' (ix2 k n) = s (ix2 k ⟨8192 + (t * 256 + n.val), by omega⟩))
    (y : S4608x256.Idx) (e : S4608x8192.Idx) (h0 : (e 0).val = (y 0).val) (h1 : (e 1).val = t * 256 + (y 1).val) :
    MainBlock.res X (MainBlock.weights P P' S S') y = gated x p s e := by
  have hz : ∀ (m : Fin 4608) (n : Fin 256) (l : Fin 512) (hl : l.val = n.val),
      MainBlock.z X (MainBlock.weights P P' S S') m l
        = z x p s m ⟨t * 256 + n.val, by omega⟩ := by
    intro m n l hl
    obtain rfl : l = ⟨n.val, n.isLt.trans (by decide)⟩ := Fin.ext hl
    unfold MainBlock.z z
    refine Finset.sum_congr rfl fun j _ => Finset.sum_congr rfl fun a _ => ?_
    rw [hx]
    congr 1
    refine (dif_pos (show n.val < 256 from n.isLt)).trans ?_
    unfold MainBlock.wt wt
    simp only [hp, hs]
    rfl
  have hz' : ∀ (m : Fin 4608) (n : Fin 256) (l : Fin 512) (hl : l.val = 256 + n.val),
      MainBlock.z X (MainBlock.weights P P' S S') m l
        = z x p s m ⟨8192 + (t * 256 + n.val), by omega⟩ := by
    intro m n l hl
    obtain rfl : l = ⟨256 + n.val, Nat.add_lt_add_left n.isLt 256⟩ := Fin.ext hl
    unfold MainBlock.z z
    refine Finset.sum_congr rfl fun j _ => Finset.sum_congr rfl fun a _ => ?_
    rw [hx]
    congr 1
    refine (dif_neg (show ¬ 256 + n.val < 256 by omega)).trans ?_
    unfold MainBlock.wt wt
    simp only [hp', hs']
    have e' : 256 + n.val - 256 = n.val := by omega
    simp only [ix2, Matrix.cons_val_one, e']
  have e0 : e 0 = y 0 := Fin.ext h0
  have b : (y 1).val < 256 := (y 1).isLt
  refine congrArg₂ (· * ·) (congrArg (fun g => g * Ideal.logistic g)
    ((hz (y 0) (y 1) ⟨(y 1).val, by omega⟩ rfl).trans ?_)) ((hz' (y 0) (y 1) ⟨256 + (y 1).val, by omega⟩ rfl).trans ?_)
  · simp only [e0, h1]
  · simp only [e0, h1]

/-- Every block of the second kernel's result is written. -/
theorem arr1 (c : Dev nD) :
    (dat1 V c).arrAt 5 cfg1.N = gated (V c main_v1) (V c main_arg1) (V c main_arg2) := by
  refine (dat1 V c).arrAt_eq_of_covers 5 _ (by decide +kernel) fun t hf y => ?_
  blk_simp
  rw [after1_5]
  unfold outsAt1
  rw [MainBlock.out_eq]
  have ht : t.val < 32 := t.isLt
  have hx : ∀ (j : Fin 12) (m : Fin 4608) (a : Fin 256), (iblk1 V c 0 t : Vec Ideal S12x4608x256 .bf16) (ix3 j m a)
      = (V c main_v1 : Vec Ideal S12x4608x256 .bf16) (ix3 j m a) := by
    intro j m a
    blk_simp [iblk1]
    congr 1
    blk_ext [index1_0 t]
  have hp : ∀ (k : Fin 1536) (n : Fin 256), (iblk1 V c 1 t : Vec Ideal S1536x256 .i8) (ix2 k n)
      = (V c main_arg1 : Vec Ideal S1536x16384 .i8) (ix2 k ⟨t.val * 256 + n.val, by omega⟩) := by
    intro k n
    blk_simp [iblk1]
    congr 1
    blk_ext [index1_1 t]
  have hp' : ∀ (k : Fin 1536) (n : Fin 256), (iblk1 V c 2 t : Vec Ideal S1536x256 .i8) (ix2 k n)
      = (V c main_arg1 : Vec Ideal S1536x16384 .i8) (ix2 k ⟨8192 + (t.val * 256 + n.val), by omega⟩) := by
    intro k n
    blk_simp [iblk1]
    congr 1
    blk_ext [index1_2 t]
  have hs : ∀ (k : Fin 24) (n : Fin 256), (iblk1 V c 3 t : Vec Ideal S24x256 .bf16) (ix2 k n)
      = (V c main_arg2 : Vec Ideal S24x16384 .bf16) (ix2 k ⟨t.val * 256 + n.val, by omega⟩) := by
    intro k n
    blk_simp [iblk1]
    congr 1
    blk_ext [index1_3 t]
  have hs' : ∀ (k : Fin 24) (n : Fin 256), (iblk1 V c 4 t : Vec Ideal S24x256 .bf16) (ix2 k n)
      = (V c main_arg2 : Vec Ideal S24x16384 .bf16) (ix2 k ⟨8192 + (t.val * 256 + n.val), by omega⟩) := by
    intro k n
    blk_simp [iblk1]
    congr 1
    blk_ext [index1_4 t]
  have h0 : ((win1_5.blk t).view.emb y 0).val = (y 0).val := by
    blk_simp [index1_5 t]
  have h1 : ((win1_5.blk t).view.emb y 1).val = t.val * 256 + (y 1).val := by
    blk_simp [index1_5 t]
  exact gated_block _ _ _ _ _ _ _ _ t.val ht hx hp hp' hs hs' y _ h0 h1

end Cert.Proof.Arrays
end
-- ==== Proof.Hadamard.lean ====
module

public import Idealize.ShloMosaic.Lib.Tactic

/-!
# The entries of the interleaved Hadamard matrix

The kernel multiplies by a `256 × 256` matrix of zeros and signs. Row `i < 128` fills the even
columns and row `128 + i` the odd ones, both with row `i` of the `128 × 128` Hadamard matrix. The
sign of a Hadamard entry is a parity, given here by the recursion which the Kronecker product
`H₁₂₈ = H₆₄ ⊗ H₂` suggests.
-/

@[expose] public section

namespace Cert.Proof.Hadamard

/-- Whether entry `(i, j)` of the `2ⁿ × 2ⁿ` Hadamard matrix is negative. -/
def neg : Nat → Nat → Nat → Bool
  | 0, _, _ => false
  | n + 1, i, j => xor (neg n (i / 2) (j / 2)) (i % 2 == 1 && j % 2 == 1)

/-- The bfloat16 word of entry `(i, q)` of the interleaved matrix. -/
def word (i q : Nat) : BitVec 16 :=
  if decide (128 ≤ i) = decide (q % 2 = 1) then
    if neg 7 (i % 128) (q / 2) then 0xBF80#16 else 0x3F80#16
  else 0#16

/-- A table of `n` entries `f o`, `f (o + 1)`, …, asked one after the other whether `m` is theirs;
`z` where none answers. -/
def pick {α : Type} (f : Nat → α) (z : α) : Nat → Nat → Nat → α
  | 0, _, _ => z
  | n + 1, o, m =>
    dite (m = o) (fun h => Eq.ndrec_symm (motive := fun _ => α) (f o) h)
      fun _ => pick f z n (o + 1) m

/-- A table answers with the entry asked for. -/
theorem pick_eq {α : Type} (f : Nat → α) (z : α) (n o m : Nat) (h : o ≤ m) (h' : m < o + n) :
    pick f z n o m = f m := by
  induction n generalizing o with
  | zero => omega
  | succ n ih =>
    rw [pick]
    split
    · next e => subst e; rfl
    · exact ih (o + 1) (by omega) (by omega)

/-- The words of tile `a`, which is half of row `a / 2`. -/
def tile (a d : Nat) : BitVec 16 := word (a / 2) (a % 2 * 128 + d)

/-- The words of the 128 tiles from tile `128 * p` on, found by the digits of the flat index. -/
def quarter (p i : Nat) : BitVec 16 :=
  pick (fun a => pick (fun d => tile (128 * p + a) d) 0#16 128 0 (i % 128)) 0#16 128 0
    (i / 128 % 128)

/-- A quarter of the table holds `word` at row and column of the place. -/
theorem quarter_eq (p i : Nat) (hp : i / 16384 = p) (hi : i < 65536) :
    quarter p i = word (i / 256) (i % 256) := by
  rw [quarter, pick_eq _ _ _ _ _ (by omega) (by omega), pick_eq _ _ _ _ _ (by omega) (by omega)]
  unfold tile
  congr 1 <;> omega

end Cert.Proof.Hadamard
-- ==== Proof.HadamardQuarters.lean ====
module

public import proofs.«01_k».proof.KernelIdeal
public import proofs.«01_k».proof.Proof.Hadamard

/-!
# The literal of the kernel is the interleaved Hadamard matrix

The literal is a table of 65536 words looked up by base-128 digits. The same lookup with the words
given by `Hadamard.word` unfolds to it entry by entry.
-/

@[expose] public section

set_option maxRecDepth 100000

namespace Cert.Proof.Hadamard

open Cert.KernelIdeal

/-- The four quarters of the literal are those of `word`. -/
theorem quarter0 (i : Nat) : lit0t1_0 i = quarter 0 i := by sl_kernel_rfl
theorem quarter1 (i : Nat) : lit0t1_1 i = quarter 1 i := by sl_kernel_rfl
theorem quarter2 (i : Nat) : lit0t1_2 i = quarter 2 i := by sl_kernel_rfl
theorem quarter3 (i : Nat) : lit0t1_3 i = quarter 3 i := by sl_kernel_rfl

end Cert.Proof.Hadamard
-- ==== Proof.HadamardTable.lean ====
module

public import proofs.«01_k».proof.Proof.HadamardQuarters

/-!
# An entry of the kernel's literal
-/

@[expose] public section

namespace Cert.Proof.Hadamard

open Cert.KernelIdeal

/-- Entry `(i, q)` of the literal. -/
theorem table (i q : Nat) (hi : i < 256) (hq : q < 256) : lit0t (256 * i + q) = word i q := by
  have h : ∀ p, (256 * i + q) / 16384 = p → quarter p (256 * i + q) = word i q := fun p hp => by
    rw [quarter_eq p _ hp (by omega)]
    congr 1 <;> omega
  obtain e | e | e | e : (256 * i + q) / 16384 = 0 ∨ (256 * i + q) / 16384 = 1 ∨
      (256 * i + q) / 16384 = 2 ∨ (256 * i + q) / 16384 = 3 := by omega
  · rw [← h _ e, ← quarter0, lit0t, e]; rfl
  · rw [← h _ e, ← quarter1, lit0t, e]; rfl
  · rw [← h _ e, ← quarter2, lit0t, e]; rfl
  · rw [← h _ e, ← quarter3, lit0t, e]; rfl

end Cert.Proof.Hadamard
-- ==== Proof.KernelRun.lean ====
module

public import proofs.«01_k».proof.Proof.Gen.KernelIdeal.Frame

/-!
# The kernel's run with its result read

The frame's proof again, its last state read at the result as well as at the arguments.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs; its result ends at the last boundary's contents and its arguments as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Gen
end
-- ==== Proof.KernelValue.lean ====
module

public import proofs.«01_k».proof.Proof.Arrays
public import proofs.«01_k».proof.Proof.HadamardTable
public import proofs.«01_k».proof.Proof.KernelRun
public import Idealize.ShloMosaic.Lib.Pointwise

/-!
# The kernel's result as a function of its arguments
-/

@[expose] public section

set_option maxRecDepth 16384

noncomputable section

namespace Cert.Proof.KernelValue

open Idealize.ShloMosaic Idealize.ShloMosaic.TcCoe Idealize.ShloMosaic.Tactic
open Cert.KernelIdeal Cert.KernelIdeal.Gen

/-- The matrix of zeros and signs that the rotation multiplies by. -/
def signs (i q : Fin 256) : EReal := Ideal.ofBits .bf16 (Hadamard.word i.val q.val)

/-- The rotated row `a, b`: entry `t, q`. -/
def row (x : Vec Ideal S12x384x3072 .bf16) (a : Fin 12) (b : Fin 384) (t : Fin 12) (q : Fin 256) : EReal :=
  RotateBlock.rot (fun k => x (ix3 a b k)) signs t q

/-- Column `n` of the product. -/
def z (x : Vec Ideal S12x384x3072 .bf16) (p : Vec Ideal S1536x16384 .i8) (s : Vec Ideal S24x16384 .bf16)
    (a : Fin 12) (b : Fin 384) (n : Fin 16384) : EReal :=
  ∑ t : Fin 12, ∑ q : Fin 256, row x a b t q * Arrays.wt p s ⟨t.val * 256 + q.val, by omega⟩ n

/-- The kernel's result. -/
def out (x : Vec Ideal S12x384x3072 .bf16) (p : Vec Ideal S1536x16384 .i8) (s : Vec Ideal S24x16384 .bf16) :
    Vec Ideal S12x384x8192 .bf16 := fun y =>
  let n : Fin 8192 := y 2
  let g := z x p s (y 0) (y 1) ⟨n.val, by omega⟩
  g * Ideal.logistic g * z x p s (y 0) (y 1) ⟨8192 + n.val, by omega⟩

variable (m : (ℓ : Loc nD τ sig) → Buf (Elt Ideal) ℓ) (ρ : Dev nD → PrngReg)

/-- Row `a, b` of the input is row `384 a + b` once the first two axes are one. -/
theorem flat_rows (x : Vec Ideal S12x384x3072 .bf16) (a : Fin 12) (b : Fin 384) (k : Fin 3072) :
    (shapeCast S4608x3072 x shapeCasts_S12x384x3072_S4608x3072 : Vec Ideal S4608x3072 .bf16)
      (ix2 ⟨384 * a.val + b.val, by omega⟩ k) = x (ix3 a b k) := by
  pointwise

/-- Row `384 a + b` of the product is row `a, b` of the result. -/
theorem unflat_rows (x : Vec Ideal S4608x8192 .bf16) (a : Fin 12) (b : Fin 384) (n : Fin 8192) :
    (shapeCast S12x384x8192 x shapeCasts_S4608x8192_S12x384x8192 : Vec Ideal S12x384x8192 .bf16) (ix3 a b n)
      = x (ix2 ⟨384 * a.val + b.val, by omega⟩ n) := by
  pointwise
  simp only [Nat.mul_comm]

/-- The matrix as the program spells it. -/
def literal : Vec Ideal S256x256 .bf16 := fun i => FloatOps.ofBits (F := Ideal) .bf16 (lit0 (S256x256.rowMajor i))

/-- The printed matrix is the matrix of signs. -/
theorem signs_eq (i q : Fin 256) : literal (ix2 i q) = signs i q := by
  have e : S256x256.rowMajor (ix2 i q) = ⟨256 * i.val + q.val, by change _ < 65536; omega⟩ :=
    Fin.ext ((Shape.rowMajor_val_two _).trans (by show i.val * 256 + q.val = 256 * i.val + q.val; omega))
  unfold literal signs
  rw [e]
  exact congrArg (Ideal.ofBits .bf16) (Hadamard.table i.val q.val i.isLt q.isLt)

/-- The first kernel reads the input with its first two axes as one. -/
theorem main_v0_eq (c : Dev nD) : V1 m ρ c main_v0
    = (shapeCast S4608x3072 (m ((c : Thread nD τ).loc main_arg0) : Vec Ideal S12x384x3072 .bf16) shapeCasts_S12x384x3072_S4608x3072 : Vec Ideal S4608x3072 .bf16) := by
  show StableHlo.after hostOps0 (W0 m ρ c) (Proc.devRef .tc main_v0) = _
  after_results
  rfl

/-- The first kernel reads the printed matrix. -/
theorem main_cst_eq (c : Dev nD) : V1 m ρ c main_cst = literal := by
  show StableHlo.after hostOps0 (W0 m ρ c) (Proc.devRef .tc main_cst) = _
  after_results
  rfl

/-- The result is the second kernel's with its rows split in two axes. -/
theorem main_v3_eq (c : Dev nD) : W4 m ρ c (Proc.devRef .tc main_v3)
    = (shapeCast S12x384x8192 (W3 m ρ c (Proc.devRef .tc main_v2) : Vec Ideal S4608x8192 .bf16) shapeCasts_S4608x8192_S12x384x8192 : Vec Ideal S12x384x8192 .bf16) := by
  show StableHlo.after hostOps2 (W3 m ρ c) (Proc.devRef .tc main_v3) = _
  after_results
  rfl

/-- The first kernel leaves the rotated rows. -/
theorem main_v1_eq (c : Dev nD) : V2 m ρ c main_v1 = Arrays.rotated (V1 m ρ c main_v0) (V1 m ρ c main_cst) :=
  (W2_arr m ρ c 2).trans (Arrays.arr0 (V1 m ρ) c)

/-- The second kernel leaves the gated product. -/
theorem main_v2_eq (c : Dev nD) : W3 m ρ c (Proc.devRef .tc main_v2)
    = Arrays.gated (V2 m ρ c main_v1) (V2 m ρ c main_arg1) (V2 m ρ c main_arg2) :=
  (W3_arr m ρ c 5).trans (Arrays.arr1 (V2 m ρ) c)

/-- The program's result as a function of its arguments. -/
theorem value (c : Dev nD) : W4 m ρ c (Proc.devRef .tc main_v3)
    = out (m ((c : Thread nD τ).loc main_arg0)) (m ((c : Thread nD τ).loc main_arg1)) (m ((c : Thread nD τ).loc main_arg2)) := by
  rw [main_v3_eq, main_v2_eq, main_v1_eq, main_v0_eq, main_cst_eq]
  rw [show V2 m ρ c main_arg1 = m ((c : Thread nD τ).loc main_arg1) from W2_args m ρ c main_arg1 (by decide)]
  rw [show V2 m ρ c main_arg2 = m ((c : Thread nD τ).loc main_arg2) from W2_args m ρ c main_arg2 (by decide)]
  funext y
  obtain ⟨a, b, n, rfl⟩ : ∃ (a : Fin 12) (b : Fin 384) (n : Fin 8192), y = ix3 a b n := ⟨y 0, y 1, y 2, eq_ix3 y⟩
  refine (unflat_rows _ a b n).trans ?_
  generalize (m ((c : Thread nD τ).loc main_arg0) : Vec Ideal S12x384x3072 .bf16) = x
  generalize (m ((c : Thread nD τ).loc main_arg1) : Vec Ideal S1536x16384 .i8) = p
  generalize (m ((c : Thread nD τ).loc main_arg2) : Vec Ideal S24x16384 .bf16) = s
  have hrow : ∀ (t : Fin 12) (q : Fin 256), Arrays.rotated
      (shapeCast S4608x3072 x shapeCasts_S12x384x3072_S4608x3072)
      literal (ix3 t ⟨384 * a.val + b.val, by omega⟩ q)
      = row x a b t q := by
    intro t q
    refine congrArg₂ (fun f h => RotateBlock.rot f h t q) (funext fun k => flat_rows _ a b k) (funext fun i => funext fun q => signs_eq i q)
  have hz : ∀ n, Arrays.z (Arrays.rotated
      (shapeCast S4608x3072 x shapeCasts_S12x384x3072_S4608x3072)
      literal) p s
      ⟨384 * a.val + b.val, by omega⟩ n = z x p s a b n := by
    intro n
    unfold Arrays.z z
    simp only [hrow]
  exact congrArg₂ (· * ·) (congrArg (fun g => g * Ideal.logistic g) (hz _)) (hz _)

end Cert.Proof.KernelValue
end
-- ==== Proof.RefStages.lean ====
module

public import proofs.«01_k».proof.Proof.Gen.ReferenceIdeal.Run
public import proofs.«01_k».proof.Proof.Hadamard
public import Idealize.ShloMosaic.Lib.IdealHost
public import Idealize.ShloMosaic.Lib.Pointwise

/-!
# The reference, stage by stage

The reference's result as a composition of small stages, and each stage read at an index.
-/

@[expose] public section

set_option maxRecDepth 16384

noncomputable section

namespace Cert.Proof.RefStages

open Idealize.ShloMosaic Idealize.ShloMosaic.TcCoe Idealize.ShloMosaic.Tactic
open Cert.ReferenceIdeal Cert.ReferenceIdeal.Gen

/-- The one-by-one matrix the Hadamard matrix starts from. -/
def had0 : FVec Ideal S1x1 .f32 :=
  broadcastInDim S1x1 ![] bcast_S_S1x1 (constant S_ .f32 0x3F800000#32)

/-- The two-by-two Hadamard matrix. -/
def h2 : FVec Ideal S2x2 .f32 := fun i => FloatOps.ofBits (F := Ideal) .f32 (lit0 (S2x2.rowMajor i))

/-- The Kronecker product of a matrix of size 1 with the two-by-two one. -/
def kron0 (prev : FVec Ideal S1x1 .f32) (h2 : FVec Ideal S2x2 .f32) : FVec Ideal S2x2 .f32 :=
  shapeCast S2x2 (mulf (broadcastInDim S1x2x1x2 ![0, 1, 2, 3] bcast_S1x1x1x1_S1x2x1x2_0_1_2_3 (broadcastInDim S1x1x1x1 ![0, 2] bcast_S1x1_S1x1x1x1_0_2 prev)) (broadcastInDim S1x2x1x2 ![1, 3] bcast_S2x2_S1x2x1x2_1_3 h2)) shapeCasts_S1x2x1x2_S2x2

/-- The Kronecker product of a square matrix of size `n` with the two-by-two one, as it is printed for any size. -/
def kron (n k : Nat) (hRow : (⟨2, ![n, n]⟩ : Shape).BroadcastsInDim ⟨4, ![n, 1, n, 1]⟩ ![0, 2])
    (hPrev : (⟨4, ![n, 1, n, 1]⟩ : Shape).BroadcastsInDim ⟨4, ![n, 2, n, 2]⟩ ![0, 1, 2, 3])
    (hTwo : S1x2x1x2.BroadcastsInDim ⟨4, ![n, 2, n, 2]⟩ ![0, 1, 2, 3])
    (hCast : (⟨4, ![n, 2, n, 2]⟩ : Shape).ShapeCasts ⟨2, ![k, k]⟩) (prev : FVec Ideal ⟨2, ![n, n]⟩ .f32) :
    FVec Ideal ⟨2, ![k, k]⟩ .f32 :=
  shapeCast ⟨2, ![k, k]⟩ (mulf
    (broadcastInDim ⟨4, ![n, 2, n, 2]⟩ ![0, 1, 2, 3] hPrev (broadcastInDim ⟨4, ![n, 1, n, 1]⟩ ![0, 2] hRow prev))
    (broadcastInDim ⟨4, ![n, 2, n, 2]⟩ ![0, 1, 2, 3] hTwo (broadcastInDim S1x2x1x2 ![1, 3] bcast_S2x2_S1x2x1x2_1_3 h2))) hCast

/-- The Hadamard matrices of size 2, 4, …, 128, one from the other. -/
def had1 : FVec Ideal S2x2 .f32 := kron0 had0 h2
@[inherit_doc had1] def had2 : FVec Ideal S4x4 .f32 :=
  kron 2 4 bcast_S2x2_S2x1x2x1_0_2 bcast_S2x1x2x1_S2x2x2x2_0_1_2_3 bcast_S1x2x1x2_S2x2x2x2_0_1_2_3
    shapeCasts_S2x2x2x2_S4x4 had1
@[inherit_doc had1] def had3 : FVec Ideal S8x8 .f32 :=
  kron 4 8 bcast_S4x4_S4x1x4x1_0_2 bcast_S4x1x4x1_S4x2x4x2_0_1_2_3 bcast_S1x2x1x2_S4x2x4x2_0_1_2_3
    shapeCasts_S4x2x4x2_S8x8 had2
@[inherit_doc had1] def had4 : FVec Ideal S16x16 .f32 :=
  kron 8 16 bcast_S8x8_S8x1x8x1_0_2 bcast_S8x1x8x1_S8x2x8x2_0_1_2_3 bcast_S1x2x1x2_S8x2x8x2_0_1_2_3
    shapeCasts_S8x2x8x2_S16x16 had3
@[inherit_doc had1] def had5 : FVec Ideal S32x32 .f32 :=
  kron 16 32 bcast_S16x16_S16x1x16x1_0_2 bcast_S16x1x16x1_S16x2x16x2_0_1_2_3 bcast_S1x2x1x2_S16x2x16x2_0_1_2_3
    shapeCasts_S16x2x16x2_S32x32 had4
@[inherit_doc had1] def had6 : FVec Ideal S64x64 .f32 :=
  kron 32 64 bcast_S32x32_S32x1x32x1_0_2 bcast_S32x1x32x1_S32x2x32x2_0_1_2_3 bcast_S1x2x1x2_S32x2x32x2_0_1_2_3
    shapeCasts_S32x2x32x2_S64x64 had5
@[inherit_doc had1] def had7 : FVec Ideal S128x128 .f32 :=
  kron 64 128 bcast_S64x64_S64x1x64x1_0_2 bcast_S64x1x64x1_S64x2x64x2_0_1_2_3 bcast_S1x2x1x2_S64x2x64x2_0_1_2_3
    shapeCasts_S64x2x64x2_S128x128 had6

/-- The Hadamard matrix over the root of its size. -/
def scaled (had7 : FVec Ideal S128x128 .f32) : FVec Ideal S128x128 .f32 :=
  mulf had7 (broadcastInDim S128x128 ![] bcast_S_S128x128 (constant S_ .f32 0x3DB504F3#32))

/-- The reciprocal root mean square of every row. -/
def scale (x : FVec Ideal S12x384x3072 .bf16) : FVec Ideal S12x384x1 .f32 :=
  Host.rsqrt (addf (Host.divf (broadcastInDim S12x384x1 ![0, 1] bcast_S12x384_S12x384x1_0_1 (Host.reduceAdd (mulf (extf .f32 x bitsLt_bf16_f32) (extf .f32 x bitsLt_bf16_f32)) (constant S_ .f32 0x00000000#32) reducesTo_S12x384x3072_S12x384_d2 h_S_)) (broadcastInDim S12x384x1 ![] bcast_S_S12x384x1 (constant S_ .f32 0x45400000#32))) (broadcastInDim S12x384x1 ![] bcast_S_S12x384x1 (constant S_ .f32 0x358637BD#32)))

/-- The normalized rows, rotated block by block. -/
def rotate (x : FVec Ideal S12x384x3072 .bf16) (r : FVec Ideal S12x384x1 .f32) (had : FVec Ideal S128x128 .f32) : FVec Ideal S12x384x3072 .bf16 :=
  truncf .bf16 (shapeCast S12x384x3072 (Host.dotGeneral dot_S12x384x24x128_S128x128_S12x384x24x128_3_0_012_1_n_n (some .fp32) (shapeCast S12x384x24x128 (mulf (extf .f32 x bitsLt_bf16_f32) (broadcastInDim S12x384x3072 ![0, 1, 2] bcast_S12x384x1_S12x384x3072_0_1_2 r)) shapeCasts_S12x384x3072_S12x384x24x128) had) shapeCasts_S12x384x24x128_S12x384x3072) bitsLt_bf16_f32

/-- The low halves of the bytes, as signed codes. -/
def codeLo (p : Vec Ideal S1536x16384 .i8) : IVec S1536x16384 32 :=
  select (cmpi .sge (andi (extui 32 p natLt_8_32) (broadcastInDim S1536x16384 ![] bcast_S_S1536x16384 (constantI S_ 32 15#32))) (broadcastInDim S1536x16384 ![] bcast_S_S1536x16384 (constantI S_ 32 8#32))) (subi (andi (extui 32 p natLt_8_32) (broadcastInDim S1536x16384 ![] bcast_S_S1536x16384 (constantI S_ 32 15#32))) (broadcastInDim S1536x16384 ![] bcast_S_S1536x16384 (constantI S_ 32 16#32))) (andi (extui 32 p natLt_8_32) (broadcastInDim S1536x16384 ![] bcast_S_S1536x16384 (constantI S_ 32 15#32)))

/-- The high halves of the bytes, as signed codes. -/
def codeHi (p : Vec Ideal S1536x16384 .i8) : IVec S1536x16384 32 :=
  select (cmpi .sge (Host.shrsi (extui 32 p natLt_8_32) (broadcastInDim S1536x16384 ![] bcast_S_S1536x16384 (constantI S_ 32 4#32))) (broadcastInDim S1536x16384 ![] bcast_S_S1536x16384 (constantI S_ 32 8#32))) (subi (Host.shrsi (extui 32 p natLt_8_32) (broadcastInDim S1536x16384 ![] bcast_S_S1536x16384 (constantI S_ 32 4#32))) (broadcastInDim S1536x16384 ![] bcast_S_S1536x16384 (constantI S_ 32 16#32))) (Host.shrsi (extui 32 p natLt_8_32) (broadcastInDim S1536x16384 ![] bcast_S_S1536x16384 (constantI S_ 32 4#32)))

/-- The weights of the first half of the rows. -/
def weightLo (c : IVec S1536x16384 32) (s : FVec Ideal S24x16384 .bf16) : FVec Ideal S1536x16384 .bf16 :=
  shapeCast S1536x16384 (mulf (shapeCast S12x128x16384 (sitofp .bf16 c) shapeCasts_S1536x16384_S12x128x16384) (broadcastInDim S12x128x16384 ![0, 1, 2] bcast_S12x1x16384_S12x128x16384_0_1_2 (broadcastInDim S12x1x16384 ![0, 2] bcast_S12x16384_S12x1x16384_0_2 (extractStridedSlice S12x16384 ![0, 0] s slices_S24x16384_S12x16384_0_0)))) shapeCasts_S12x128x16384_S1536x16384

/-- The weights of the second half of the rows. -/
def weightHi (c : IVec S1536x16384 32) (s : FVec Ideal S24x16384 .bf16) : FVec Ideal S1536x16384 .bf16 :=
  shapeCast S1536x16384 (mulf (shapeCast S12x128x16384 (sitofp .bf16 c) shapeCasts_S1536x16384_S12x128x16384) (broadcastInDim S12x128x16384 ![0, 1, 2] bcast_S12x1x16384_S12x128x16384_0_1_2 (broadcastInDim S12x1x16384 ![0, 2] bcast_S12x16384_S12x1x16384_0_2 (extractStridedSlice S12x16384 ![12, 0] s slices_S24x16384_S12x16384_12_0)))) shapeCasts_S12x128x16384_S1536x16384

/-- The product, over the two halves of the channels. -/
def product (xrot : FVec Ideal S12x384x3072 .bf16) (lo hi : FVec Ideal S1536x16384 .bf16) : FVec Ideal S12x384x16384 .f32 :=
  addf (Host.dotGeneral dot_S12x384x1536_S1536x16384_S12x384x16384_2_0_01_1_n_n none (extractStridedSlice S12x384x1536 ![0, 0, 0] xrot slices_S12x384x3072_S12x384x1536_0_0_0) lo) (Host.dotGeneral dot_S12x384x1536_S1536x16384_S12x384x16384_2_0_01_1_n_n none (extractStridedSlice S12x384x1536 ![0, 0, 1536] xrot slices_S12x384x3072_S12x384x1536_0_0_1536) hi)

/-- The gate: `silu` of the first columns times the others. -/
def gate (z : FVec Ideal S12x384x16384 .f32) : FVec Ideal S12x384x8192 .bf16 :=
  truncf .bf16 (mulf (mulf (extractStridedSlice S12x384x8192 ![0, 0, 0] z slices_S12x384x16384_S12x384x8192_0_0_0) (Host.divf (broadcastInDim S12x384x8192 ![] bcast_S_S12x384x8192 (constant S_ .f32 0x3F800000#32)) (addf (broadcastInDim S12x384x8192 ![] bcast_S_S12x384x8192 (constant S_ .f32 0x3F800000#32)) (Host.exp (Host.negf (extractStridedSlice S12x384x8192 ![0, 0, 0] z slices_S12x384x16384_S12x384x8192_0_0_0)))))) (extractStridedSlice S12x384x8192 ![0, 0, 8192] z slices_S12x384x16384_S12x384x8192_0_0_8192)) bitsLt_bf16_f32

/-- The reference's result. -/
def out (x : FVec Ideal S12x384x3072 .bf16) (p : Vec Ideal S1536x16384 .i8) (s : FVec Ideal S24x16384 .bf16) :
    FVec Ideal S12x384x8192 .bf16 :=
  gate (product (rotate x (scale x) (scaled had7)) (weightLo (codeLo p) s) (weightHi (codeHi p) s))

/-- The reference's printed result is these stages. -/
theorem res_eq (m : (ℓ : Loc nD τ sig) → Buf (Elt Ideal) ℓ) (c : Dev nD) : Value.res_main_v63 m c
    = out (m ((c.tc : Thread nD τ).loc main_arg0)) (m ((c.tc : Thread nD τ).loc main_arg1)) (m ((c.tc : Thread nD τ).loc main_arg2)) := rfl

/-! ## The Hadamard matrix -/

/-- The sign of an entry. -/
def sign (b : Bool) : EReal := if b then -1 else 1

/-- Signs multiply as parities add. -/
theorem sign_mul (a b : Bool) : sign a * sign b = sign (xor a b) := by
  cases a <;> cases b <;> simp [sign]

/-- The word of minus one. -/
theorem ofBits_neg_one_f32 : Ideal.ofBits .f32 0xBF800000#32 = ((-(1 : ℝ)) : EReal) := by
  simp [Ideal.ofBits, Ideal.ieee, -EReal.coe_mul, -EReal.coe_neg]; norm_num

/-- The two-by-two matrix, entry by entry. -/
theorem h2_apply (i j : Fin 2) : h2 (ix2 i j) = sign (i.val % 2 == 1 && j.val % 2 == 1) := by
  fin_cases i <;> fin_cases j
  · exact Ideal.ofBits_one_f32
  · exact Ideal.ofBits_one_f32
  · exact Ideal.ofBits_one_f32
  · exact ofBits_neg_one_f32.trans (by simp [sign])

/-- The one-by-one matrix. -/
theorem had0_apply (i j : Fin 1) : had0 (ix2 i j) = sign (Hadamard.neg 0 i.val j.val) := by
  unfold had0
  pointwise
  rfl

/-- The first product, entry by entry. -/
theorem kron0_apply (prev : FVec Ideal S1x1 .f32) (h : ∀ i j : Fin 1, prev (ix2 i j) = sign (Hadamard.neg 0 i.val j.val))
    (i j : Fin 2) : kron0 prev h2 (ix2 i j) = sign (Hadamard.neg 1 i.val j.val) := by
  unfold kron0
  pointwise
  rw [h, h2_apply, sign_mul]
  congr 1

/-- An entry of the product: the entry of the blocks times the entry inside the block. -/
theorem kron_apply (n k : Nat) (hRow hPrev hTwo hCast) (hk : k = 2 * n) (prev : FVec Ideal ⟨2, ![n, n]⟩ .f32) (i j : Fin k) :
    kron n k hRow hPrev hTwo hCast prev (ix2 i j)
      = prev (ix2 ⟨i.val / 2, by omega⟩ ⟨j.val / 2, by omega⟩) * h2 (ix2 ⟨i.val % 2, by omega⟩ ⟨j.val % 2, by omega⟩) := by
  let y : (⟨4, ![n, 2, n, 2]⟩ : Shape).Idx :=
    ix4 (⟨i.val / 2, by omega⟩ : Fin n) (⟨i.val % 2, by omega⟩ : Fin 2) (⟨j.val / 2, by omega⟩ : Fin n) (⟨j.val % 2, by omega⟩ : Fin 2)
  have hy : ((⟨4, ![n, 2, n, 2]⟩ : Shape).rowMajor y).val = ((⟨2, ![k, k]⟩ : Shape).rowMajor (ix2 i j)).val := by
    refine (Shape.rowMajor_val_four y).trans (Eq.trans ?_ (Shape.rowMajor_val_two (ix2 i j)).symm)
    show ((i.val / 2 * 2 + i.val % 2) * n + j.val / 2) * 2 + j.val % 2 = i.val * k + j.val
    rw [show i.val / 2 * 2 + i.val % 2 = i.val by omega, Nat.add_mul, Nat.mul_assoc, Nat.mul_comm n 2, ← hk, Nat.add_assoc]
    congr 1
    omega
  unfold kron
  refine (shapeCast_apply _ hCast (ix2 i j) y hy).trans ?_
  refine congrArg₂ (· * ·) ?_ ?_
  · refine (broadcastInDim_apply _ hPrev _ y
      (ix4 (⟨i.val / 2, by omega⟩ : Fin n) (0 : Fin 1) (⟨j.val / 2, by omega⟩ : Fin n) (0 : Fin 1)) fun a => ?_).trans
      (broadcastInDim_apply _ hRow _ _ _ fun a => ?_)
    · fin_cases a
      · show i.val / 2 = if n = 1 then 0 else i.val / 2
        split <;> omega
      · rfl
      · show j.val / 2 = if n = 1 then 0 else j.val / 2
        split <;> omega
      · rfl
    · fin_cases a
      · show i.val / 2 = if n = 1 then 0 else i.val / 2
        split <;> omega
      · show j.val / 2 = if n = 1 then 0 else j.val / 2
        split <;> omega
  · refine (broadcastInDim_apply _ hTwo _ y
      (ix4 (0 : Fin 1) (⟨i.val % 2, by omega⟩ : Fin 2) (0 : Fin 1) (⟨j.val % 2, by omega⟩ : Fin 2)) fun a => ?_).trans
      (broadcastInDim_apply _ bcast_S2x2_S1x2x1x2_1_3 _ _ _ fun a => ?_)
    · fin_cases a <;> rfl
    · fin_cases a <;> rfl

/-- One more factor doubles the size and turns the signs by one more parity. -/
theorem kron_sign (e n k : Nat) (hRow hPrev hTwo hCast) (hk : k = 2 * n) (prev : FVec Ideal ⟨2, ![n, n]⟩ .f32)
    (h : ∀ i j : Fin n, prev (ix2 i j) = sign (Hadamard.neg e i.val j.val)) (i j : Fin k) :
    kron n k hRow hPrev hTwo hCast prev (ix2 i j) = sign (Hadamard.neg (e + 1) i.val j.val) := by
  rw [kron_apply _ _ _ _ _ _ hk, h, h2_apply, sign_mul]
  simp only [Hadamard.neg, Nat.mod_mod]

/-- The Hadamard matrix, entry by entry. -/
theorem had7_apply (i j : Fin 128) : had7 (ix2 i j) = sign (Hadamard.neg 7 i.val j.val) :=
  kron_sign 6 64 128 _ _ _ _ rfl _ (kron_sign 5 32 64 _ _ _ _ rfl _ (kron_sign 4 16 32 _ _ _ _ rfl _
    (kron_sign 3 8 16 _ _ _ _ rfl _ (kron_sign 2 4 8 _ _ _ _ rfl _ (kron_sign 1 2 4 _ _ _ _ rfl _
      (kron0_apply _ had0_apply)))))) i j

/-! ## The other stages -/

/-- The scaled Hadamard matrix, entry by entry. -/
theorem scaled_apply (h : FVec Ideal S128x128 .f32) (i j : Fin 128) :
    scaled h (ix2 i j) = h (ix2 i j) * Ideal.ofBits .f32 0x3DB504F3#32 := by
  unfold scaled
  pointwise

/-- The scale of a row. -/
theorem scale_apply (x : FVec Ideal S12x384x3072 .bf16) (a : Fin 12) (b : Fin 384) (e : Fin 1) : scale x (ix3 a b e)
    = Ideal.rsqrt (Ideal.div (∑ k : Fin 3072, x (ix3 a b k) * x (ix3 a b k)) (Ideal.ofBits .f32 0x45400000#32)
        + Ideal.ofBits .f32 0x358637BD#32) := by
  unfold scale
  pointwise

/-- A rotated channel is the sum over its block. -/
theorem rotate_apply (x : FVec Ideal S12x384x3072 .bf16) (r : FVec Ideal S12x384x1 .f32) (h : FVec Ideal S128x128 .f32)
    (a : Fin 12) (b : Fin 384) (k : Fin 3072) : rotate x r h (ix3 a b k)
    = ∑ i : Fin 128, x (ix3 a b ⟨k.val / 128 * 128 + i.val, by omega⟩) * r (ix3 a b 0) * h (ix2 i ⟨k.val % 128, by omega⟩) := by
  unfold rotate
  pointwise

/-- For each byte: the sign extension by comparison is the one by shifts, low half. -/
theorem code_lo : ∀ p : BitVec 8, Scalar.select (IntOp.cmpi CmpIPredicate.sge (IntOp.andi (BitVec.setWidth 32 p) 15#32) 8#32)
      (IntOp.subi (IntOp.andi (BitVec.setWidth 32 p) 15#32) 16#32) (IntOp.andi (BitVec.setWidth 32 p) 15#32)
      = (p.setWidth 32 <<< 28).sshiftRight 28 := by
  decide +kernel

/-- The same for the high half. -/
theorem code_hi : ∀ p : BitVec 8,
    Scalar.select (IntOp.cmpi CmpIPredicate.sge (IntOp.shrsi ArithUnit.host (BitVec.setWidth 32 p) 4#32) 8#32)
      (IntOp.subi (IntOp.shrsi ArithUnit.host (BitVec.setWidth 32 p) 4#32) 16#32)
      (IntOp.shrsi ArithUnit.host (BitVec.setWidth 32 p) 4#32)
      = (p.setWidth 32 <<< 24).sshiftRight 28 := by
  decide +kernel

/-- A low code, by shifts. -/
theorem codeLo_apply (p : Vec Ideal S1536x16384 .i8) (k : Fin 1536) (n : Fin 16384) :
    codeLo p (ix2 k n) = ((p (ix2 k n) : BitVec 8).setWidth 32 <<< 28).sshiftRight 28 := by
  unfold codeLo
  pointwise
  exact code_lo _

/-- A high code, by shifts. -/
theorem codeHi_apply (p : Vec Ideal S1536x16384 .i8) (k : Fin 1536) (n : Fin 16384) :
    codeHi p (ix2 k n) = ((p (ix2 k n) : BitVec 8).setWidth 32 <<< 24).sshiftRight 28 := by
  unfold codeHi
  pointwise
  exact code_hi _

/-- A weight of the first half: code times scale. -/
theorem weightLo_apply (c : IVec S1536x16384 32) (s : FVec Ideal S24x16384 .bf16) (k : Fin 1536) (n : Fin 16384) :
    weightLo c s (ix2 k n) = (((c (ix2 k n)).toInt : ℝ) : EReal) * s (ix2 ⟨k.val / 128, by omega⟩ n) := by
  unfold weightLo
  pointwise
  rfl

/-- A weight of the second half: code times scale. -/
theorem weightHi_apply (c : IVec S1536x16384 32) (s : FVec Ideal S24x16384 .bf16) (k : Fin 1536) (n : Fin 16384) :
    weightHi c s (ix2 k n) = (((c (ix2 k n)).toInt : ℝ) : EReal) * s (ix2 ⟨12 + k.val / 128, by omega⟩ n) := by
  unfold weightHi
  pointwise
  rfl

/-- An entry of the product: the sums over the two halves. -/
theorem product_apply (x : FVec Ideal S12x384x3072 .bf16) (lo hi : FVec Ideal S1536x16384 .bf16)
    (a : Fin 12) (b : Fin 384) (n : Fin 16384) : product x lo hi (ix3 a b n)
    = ∑ k : Fin 1536, x (ix3 a b ⟨k.val, by omega⟩) * lo (ix2 k n)
      + ∑ k : Fin 1536, x (ix3 a b ⟨1536 + k.val, by omega⟩) * hi (ix2 k n) := by
  unfold product
  pointwise

/-- An entry of the result. -/
theorem gate_apply (z : FVec Ideal S12x384x16384 .f32) (a : Fin 12) (b : Fin 384) (n : Fin 8192) : gate z (ix3 a b n)
    = z (ix3 a b ⟨n.val, by omega⟩) * Ideal.logistic (z (ix3 a b ⟨n.val, by omega⟩)) * z (ix3 a b ⟨8192 + n.val, by omega⟩) := by
  unfold gate
  pointwise
  rfl

end Cert.Proof.RefStages
end
-- ==== Proof.Equation.lean ====
module

public import proofs.«01_k».proof.Proof.KernelValue
public import proofs.«01_k».proof.Proof.RefStages

/-!
# The kernel's result is the reference's

The reference scales each channel before it is rotated, the kernel the rotated block: the scale is a real that is not
negative, so the product distributes over the sum whatever the channels are.
-/

@[expose] public section

set_option maxRecDepth 16384

noncomputable section

namespace Cert.Proof.Equation

open Idealize.ShloMosaic Idealize.ShloMosaic.TcCoe Idealize.ShloMosaic.Tactic
open Cert.KernelIdeal

/-- A sum times a real that is not negative. -/
theorem sum_mul_real {ι : Type*} (s : Finset ι) (f : ι → EReal) (r : EReal) (h0 : 0 ≤ r) (h1 : r ≠ ⊤) :
    (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 h1, ih]

/-- A square is not negative. -/
theorem mul_self_nonneg (x : EReal) : 0 ≤ x * x := by
  rcases le_total 0 x with h | h
  · exact mul_nonneg h h
  · exact EReal.mul_nonneg_iff.mpr (Or.inr ⟨h, h⟩)

/-- The word of 3072. -/
theorem count_eq : Ideal.ofBits .f32 0x45400000#32 = ((3072 : ℝ) : EReal) := by
  simp [Ideal.ofBits, Ideal.ieee, -EReal.coe_mul]; norm_num

/-- The small constant is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- The scale of a rotated row is a real that is not negative. -/
theorem rms_real (x : Fin 3072 → EReal) : ∃ r : ℝ, 0 ≤ r ∧ RotateBlock.rms x = (r : EReal) := by
  obtain ⟨e, he, hE⟩ := eps_pos
  unfold RotateBlock.rms
  rw [hE, count_eq, Ideal.div_coe (by norm_num)]
  have hs : 0 ≤ (∑ k : Fin 3072, x k * x k) * ((1 / 3072 : ℝ) : EReal) :=
    mul_nonneg (Finset.sum_nonneg fun k _ => mul_self_nonneg _) (EReal.coe_nonneg.mpr (by norm_num))
  generalize (∑ k : Fin 3072, x k * x k) * ((1 / 3072 : ℝ) : EReal) = q at hs
  induction q with
  | bot => simp at hs
  | top => exact ⟨0, le_rfl, by simp⟩
  | coe q =>
    have hq : 0 ≤ q := EReal.coe_nonneg.mp hs
    refine ⟨(Real.sqrt (q + e))⁻¹, by positivity, ?_⟩
    rw [← EReal.coe_add, Ideal.rsqrt_coe, if_neg (by linarith), if_neg (by linarith)]

/-- The factor of the rotation is a real that is not negative. -/
theorem norm_real : ∃ c : ℝ, 0 ≤ c ∧ Ideal.ofBits .f32 0x3DB504F3#32 = (c : EReal) := by
  refine ⟨_, ?_, by simp [Ideal.ofBits, Ideal.ieee, -EReal.coe_mul]; rfl⟩
  norm_num

/-- The reference's rotated channel `j` of block `t`, of one row. -/
def turned (x : Fin 3072 → EReal) (t : Fin 24) (j : Fin 128) : EReal :=
  ∑ i : Fin 128, x ⟨t.val * 128 + i.val, by omega⟩ * RotateBlock.rms x
    * (RefStages.sign (Hadamard.neg 7 i.val j.val) * Ideal.ofBits .f32 0x3DB504F3#32)

/-- The scale taken out of the sum. -/
theorem turned_eq (x : Fin 3072 → EReal) (t : Fin 24) (j : Fin 128) :
    turned x t j = (∑ i : Fin 128, x ⟨t.val * 128 + i.val, by omega⟩ * RefStages.sign (Hadamard.neg 7 i.val j.val))
      * (RotateBlock.rms x * Ideal.ofBits .f32 0x3DB504F3#32) := by
  obtain ⟨r, hr, hR⟩ := rms_real x
  obtain ⟨c, hc, hC⟩ := norm_real
  unfold turned
  rw [hR, hC, sum_mul_real _ _ _ (mul_nonneg (EReal.coe_nonneg.mpr hr) (EReal.coe_nonneg.mpr hc))
    (by rw [← EReal.coe_mul]; exact EReal.coe_ne_top _)]
  exact Finset.sum_congr rfl fun i _ => mul_mul_mul_comm _ _ _ _

/-- An entry of the kernel's matrix where the halves match. -/
theorem signs_match (i q : Fin 256) (h : decide (128 ≤ i.val) = decide (q.val % 2 = 1)) :
    KernelValue.signs i q = RefStages.sign (Hadamard.neg 7 (i.val % 128) (q.val / 2)) := by
  unfold KernelValue.signs Hadamard.word RefStages.sign
  rw [if_pos h]
  split
  · exact Ideal.ofBits_neg_one_bf16.trans (by simp)
  · exact Ideal.ofBits_one_bf16

/-- An entry of the kernel's matrix where the halves do not match. -/
theorem signs_zero (i q : Fin 256) (h : ¬ decide (128 ≤ i.val) = decide (q.val % 2 = 1)) :
    KernelValue.signs i q = 0 := by
  unfold KernelValue.signs Hadamard.word
  rw [if_neg h]
  exact Ideal.ofBits_zero_bf16

/-- Even places of the kernel's tile `t` hold the reference's block `t`. -/
theorem rot_even (x : Fin 3072 → EReal) (t : Fin 12) (j : Fin 128) :
    RotateBlock.rot x KernelValue.signs t ⟨j.val * 2, by omega⟩ = turned x ⟨t.val, by omega⟩ j := by
  rw [turned_eq]
  unfold RotateBlock.rot
  congr 1
  have h1 : ∀ i : Fin 128, KernelValue.signs ⟨i.val, by omega⟩ ⟨j.val * 2, by omega⟩
      = RefStages.sign (Hadamard.neg 7 i.val j.val) := by
    intro i
    rw [signs_match _ _ (by simp)]
    congr 2
    · exact Nat.mod_eq_of_lt i.isLt
    · simp
  have h2 : ∀ i : Fin 128, KernelValue.signs ⟨128 + i.val, by omega⟩ ⟨j.val * 2, by omega⟩ = 0 :=
    fun i => signs_zero _ _ (by simp)
  simp only [h1, h2, mul_zero, Finset.sum_const_zero, add_zero, Nat.mul_comm]

/-- Odd places of the kernel's tile `t` hold the reference's block `12 + t`. -/
theorem rot_odd (x : Fin 3072 → EReal) (t : Fin 12) (j : Fin 128) :
    RotateBlock.rot x KernelValue.signs t ⟨j.val * 2 + 1, by omega⟩ = turned x ⟨12 + t.val, by omega⟩ j := by
  rw [turned_eq]
  unfold RotateBlock.rot
  congr 1
  have h1 : ∀ i : Fin 128, KernelValue.signs ⟨i.val, by omega⟩ ⟨j.val * 2 + 1, by omega⟩ = 0 :=
    fun i => signs_zero _ _ (by simp)
  have h2 : ∀ i : Fin 128, KernelValue.signs ⟨128 + i.val, by omega⟩ ⟨j.val * 2 + 1, by omega⟩
      = RefStages.sign (Hadamard.neg 7 i.val j.val) := by
    intro i
    rw [signs_match _ _ (by simp)]
    congr 2
    · show (128 + i.val) % 128 = _
      omega
    · show (j.val * 2 + 1) / 2 = _
      omega
  have e : ∀ i : Fin 128, (⟨1536 + 128 * t.val + i.val, by omega⟩ : Fin 3072) = ⟨(12 + t.val) * 128 + i.val, by omega⟩ :=
    fun i => Fin.ext (by show 1536 + 128 * t.val + i.val = (12 + t.val) * 128 + i.val; omega)
  simp only [h1, h2, mul_zero, Finset.sum_const_zero, zero_add, e]

variable (x : Vec Ideal S12x384x3072 .bf16) (p : Vec Ideal S1536x16384 .i8) (s : Vec Ideal S24x16384 .bf16)

/-- The reference's rotated channels. -/
theorem rotate_eq (a : Fin 12) (b : Fin 384) (t : Fin 24) (j : Fin 128) (k : Fin 3072) (hk : k.val = t.val * 128 + j.val) :
    RefStages.rotate x (RefStages.scale x) (RefStages.scaled RefStages.had7) (ix3 a b k) = turned (fun k => x (ix3 a b k)) t j := by
  rw [RefStages.rotate_apply]
  unfold turned
  refine Finset.sum_congr rfl fun i _ => ?_
  rw [RefStages.scale_apply, RefStages.scaled_apply, RefStages.had7_apply]
  have e1 : k.val / 128 = t.val := by omega
  have e2 : k.val % 128 = j.val := by omega
  simp only [e1, e2]
  rfl

/-- The weights of an even row of a tile. -/
theorem wt_even (t : Fin 12) (j : Fin 128) (n : Fin 16384) :
    Arrays.wt p s ⟨t.val * 256 + j.val * 2, by omega⟩ n
      = RefStages.weightLo (RefStages.codeLo p) s (ix2 ⟨t.val * 128 + j.val, by omega⟩ n) := by
  rw [RefStages.weightLo_apply, RefStages.codeLo_apply]
  unfold Arrays.wt Tiles.code
  have e0 : (t.val * 256 + j.val * 2) % 2 = 0 := by omega
  have e1 : (t.val * 256 + j.val * 2) / 256 = t.val := by omega
  have e2 : (t.val * 256 + j.val * 2) % 256 / 2 = j.val := by omega
  have e3 : (t.val * 128 + j.val) / 128 = t.val := by omega
  simp only [e0, e1, e2, e3, if_true]
  rfl

/-- The weights of an odd row of a tile. -/
theorem wt_odd (t : Fin 12) (j : Fin 128) (n : Fin 16384) :
    Arrays.wt p s ⟨t.val * 256 + (j.val * 2 + 1), by omega⟩ n
      = RefStages.weightHi (RefStages.codeHi p) s (ix2 ⟨t.val * 128 + j.val, by omega⟩ n) := by
  rw [RefStages.weightHi_apply, RefStages.codeHi_apply]
  unfold Arrays.wt Tiles.code
  have e0 : ¬ (t.val * 256 + (j.val * 2 + 1)) % 2 = 0 := by omega
  have e1 : (t.val * 256 + (j.val * 2 + 1)) / 256 = t.val := by omega
  have e2 : (t.val * 256 + (j.val * 2 + 1)) % 256 / 2 = j.val := by omega
  have e3 : (t.val * 128 + j.val) / 128 = t.val := by omega
  simp only [e0, e1, e2, e3, if_false]
  rfl

/-- The products agree. -/
theorem z_eq (a : Fin 12) (b : Fin 384) (n : Fin 16384) : KernelValue.z x p s a b n
    = RefStages.product (RefStages.rotate x (RefStages.scale x) (RefStages.scaled RefStages.had7))
        (RefStages.weightLo (RefStages.codeLo p) s) (RefStages.weightHi (RefStages.codeHi p) s) (ix3 a b n) := by
  rw [RefStages.product_apply, Fin.sum_univ_tiles 12 128 rfl, Fin.sum_univ_tiles 12 128 rfl, ← Finset.sum_add_distrib]
  unfold KernelValue.z KernelValue.row
  refine Finset.sum_congr rfl fun t _ => ?_
  rw [Fin.sum_univ_tiles 128 2 rfl, ← Finset.sum_add_distrib]
  refine Finset.sum_congr rfl fun j _ => ?_
  rw [Fin.sum_univ_two]
  refine congrArg₂ (· + ·) (congrArg₂ (· * ·) ?_ ?_) (congrArg₂ (· * ·) ?_ ?_)
  · exact (rot_even _ t j).trans (rotate_eq x a b ⟨t.val, by omega⟩ j _ rfl).symm
  · exact wt_even p s t j n
  · exact (rot_odd _ t j).trans (rotate_eq x a b ⟨12 + t.val, by omega⟩ j _
      (by show 1536 + (t.val * 128 + j.val) = (12 + t.val) * 128 + j.val; omega)).symm
  · exact wt_odd p s t j n

/-- The kernel's result is the reference's. -/
theorem out_eq : KernelValue.out x p s = RefStages.out x p s := by
  funext y
  obtain ⟨a, b, n, rfl⟩ : ∃ (a : Fin 12) (b : Fin 384) (n : Fin 8192), y = ix3 a b n := ⟨y 0, y 1, y 2, eq_ix3 y⟩
  refine Eq.trans ?_ (RefStages.gate_apply _ a b n).symm
  exact congrArg₂ (· * ·) (congrArg (fun g => g * Ideal.logistic g) (z_eq x p s a b _)) (z_eq x p s a b _)

end Cert.Proof.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the arguments the kernel and the reference end with equal results. -/
theorem algebraic : algebraic_KernelIdeal_ReferenceIdeal (hKernelIdeal := Cert.KernelIdeal.Gen.facts)
    (hReferenceIdeal := Cert.ReferenceIdeal.Gen.facts) := by
  intro m ρ m' ρ' _ hm
  refine ⟨fun c => Cert.KernelIdeal.Gen.W4 m ρ c (Proc.devRef .tc Cert.KernelIdeal.main_v3),
    Cert.KernelIdeal.Gen.run m ρ,
    (θ_run _ _ _).mono (fun r h c => ⟨(h c).1.trans ?_, (h c).2⟩) (Cert.ReferenceIdeal.Value.run m' ρ')⟩
  refine (RefStages.res_eq m' c).trans ?_
  rw [(hm c).1, (hm c).2.1, (hm c).2.2]
  exact ((KernelValue.value m ρ c).trans (Equation.out_eq _ _ _)).symm

/-- Everything that is claimed. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems (by decide) _⟩)
    (Cert.ReferenceIdeal.Value.run m ρ),
  trivial,
  algebraic⟩

end Cert.Proof

end
